-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S512x2048 : Shape := ⟨2, ![512, 2048]⟩
abbrev S7x512x256 : Shape := ⟨3, ![7, 512, 256]⟩
abbrev S1x128 : Shape := ⟨2, ![1, 128]⟩
abbrev S7x128 : Shape := ⟨2, ![7, 128]⟩
abbrev S7 : Shape := ⟨1, ![7]⟩
abbrev S_ : Shape := ⟨0, ![]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S128 : Shape := ⟨1, ![128]⟩
abbrev S1x7x128 : Shape := ⟨3, ![1, 7, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S4096x256, .bf16⟩
  | .local _ .vmem, ⟨0, _⟩ => ⟨S512x4096, .bf16⟩
  | .local _ .vmem, ⟨1, _⟩ => ⟨S4096x2048, .bf16⟩
  | .local _ .vmem, ⟨2, _⟩ => ⟨S4096x256, .bf16⟩
  | .local _ .vmem, ⟨3, _⟩ => ⟨S512x2048, .bf16⟩
  | .local _ .vmem, ⟨4, _⟩ => ⟨S7x512x256, .bf16⟩
  | .local _ .vmem, ⟨5, _⟩ => ⟨S1x128, .f32⟩
  | .local _ .vmem, ⟨6, _⟩ => ⟨S7x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let c0_71 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c1_i32_64
  let c8_i32_65 : BitVec 32 := 8#32
  let c0_i32_66 : BitVec 32 := 0#32
  let v98 : BitVec 1 := Scalar.cmpi .eq c8_i32_65 c0_i32_66
  let c1_i32_67 : BitVec 32 := 1#32
  let v99 : BitVec 32 := Scalar.select v98 c1_i32_67 c8_i32_65
  let v100 : BitVec 32 := Scalar.remsi v97 v99
  let c0_i32_69 : BitVec 32 := 0#32
  let v102 : BitVec 1 := Scalar.cmpi .slt v100 c0_i32_69
  let c0_i32_70 : BitVec 32 := 0#32
  let v103 : BitVec 1 := Scalar.cmpi .slt v99 c0_i32_70
  let v104 : BitVec 1 := Scalar.xori v102 v103
  let c0_i32_68 : BitVec 32 := 0#32
  let v101 : BitVec 1 := Scalar.cmpi .ne v100 c0_i32_68
  let v105 : BitVec 1 := Scalar.andi v104 v101
  let v106 : BitVec 32 := Scalar.addi v100 v99
  let v107 : BitVec 32 := Scalar.select v105 v106 v100
  let c256_i32 : BitVec 32 := 256#32
  let v108 : BitVec 32 := Scalar.muli v107 c256_i32
  let v109 : Index := Scalar.indexCast v108
  ![0, v109.toNat]
def k0_off2 (d0 : Dev nD) (c1_i32_64 : BitVec 32) : Fin 2 → Nat :=
  let c0_74 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c1_i32_64
  let c8_i32_65 : BitVec 32 := 8#32
  let c0_i32_66 : BitVec 32 := 0#32
  let v98 : BitVec 1 := Scalar.cmpi .eq c8_i32_65 c0_i32_66
  let c1_i32_67 : BitVec 32 := 1#32
  let v99 : BitVec 32 := Scalar.select v98 c1_i32_67 c8_i32_65
  let v100 : BitVec 32 := Scalar.remsi v97 v99
  let c0_i32_69 : BitVec 32 := 0#32
  let v102 : BitVec 1 := Scalar.cmpi .slt v100 c0_i32_69
  let c0_i32_70 : BitVec 32 := 0#32
  let v103 : BitVec 1 := Scalar.cmpi .slt v99 c0_i32_70
  let v104 : BitVec 1 := Scalar.xori v102 v103
  let c0_i32_68 : BitVec 32 := 0#32
  let v101 : BitVec 1 := Scalar.cmpi .ne v100 c0_i32_68
  let v105 : BitVec 1 := Scalar.andi v104 v101
  let v106 : BitVec 32 := Scalar.addi v100 v99
  let v107 : BitVec 32 := Scalar.select v105 v106 v100
  let c256_i32_73 : BitVec 32 := 256#32
  let v119 : BitVec 32 := Scalar.muli v107 c256_i32_73
  let v120 : Index := Scalar.indexCast v119
  ![0, v120.toNat]
def k0_off3 (d0 : Dev nD) (c1_i32_64 : BitVec 32) : Fin 2 → Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c1_i32_64
  let c8_i32_65 : BitVec 32 := 8#32
  let c0_i32_66 : BitVec 32 := 0#32
  let v98 : BitVec 1 := Scalar.cmpi .eq c8_i32_65 c0_i32_66
  let c1_i32_67 : BitVec 32 := 1#32
  let v99 : BitVec 32 := Scalar.select v98 c1_i32_67 c8_i32_65
  let v100 : BitVec 32 := Scalar.remsi v97 v99
  let c0_i32_69 : BitVec 32 := 0#32
  let v102 : BitVec 1 := Scalar.cmpi .slt v100 c0_i32_69
  let c0_i32_70 : BitVec 32 := 0#32
  let v103 : BitVec 1 := Scalar.cmpi .slt v99 c0_i32_70
  let v104 : BitVec 1 := Scalar.xori v102 v103
  let c0_i32_68 : BitVec 32 := 0#32
  let v101 : BitVec 1 := Scalar.cmpi .ne v100 c0_i32_68
  let v105 : BitVec 1 := Scalar.andi v104 v101
  let v106 : BitVec 32 := Scalar.addi v100 v99
  let v107 : BitVec 32 := Scalar.select v105 v106 v100
  let c256_i32_76 : BitVec 32 := 256#32
  let v124 : BitVec 32 := Scalar.muli v107 c256_i32_76
  ![0, v124.toNat]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v97 : BitVec 32 := Scalar.addi v2 c1_i32_64
  let c8_i32_65 : BitVec 32 := 8#32
  let c0_i32_66 : BitVec 32 := 0#32
  let v98 : BitVec 1 := Scalar.cmpi .eq c8_i32_65 c0_i32_66
  let c1_i32_67 : BitVec 32 := 1#32
  let v99 : BitVec 32 := Scalar.select v98 c1_i32_67 c8_i32_65
  let v100 : BitVec 32 := Scalar.remsi v97 v99
  let c0_i32_69 : BitVec 32 := 0#32
  let v102 : BitVec 1 := Scalar.cmpi .slt v100 c0_i32_69
  let c0_i32_70 : BitVec 32 := 0#32
  let v103 : BitVec 1 := Scalar.cmpi .slt v99 c0_i32_70
  let v104 : BitVec 1 := Scalar.xori v102 v103
  let c0_i32_68 : BitVec 32 := 0#32
  let v101 : BitVec 1 := Scalar.cmpi .ne v100 c0_i32_68
  let v105 : BitVec 1 := Scalar.andi v104 v101
  let v106 : BitVec 32 := Scalar.addi v100 v99
  let v107 : BitVec 32 := Scalar.select v105 v106 v100
  let c1_i32_80 : BitVec 32 := 1#32
  let v125 : BitVec 32 := Scalar.muli v107 c1_i32_80
  let v126 : BitVec 32 := Scalar.addi c0_i32_81 v125
  v126.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v134 : BitVec 32 := Scalar.addi v2 c2_i32_85
  let c8_i32_86 : BitVec 32 := 8#32
  let c0_i32_87 : BitVec 32 := 0#32
  let v135 : BitVec 1 := Scalar.cmpi .eq c8_i32_86 c0_i32_87
  let c1_i32_88 : BitVec 32 := 1#32
  let v136 : BitVec 32 := Scalar.select v135 c1_i32_88 c8_i32_86
  let v137 : BitVec 32 := Scalar.remsi v134 v136
  let c0_i32_90 : BitVec 32 := 0#32
  let v139 : BitVec 1 := Scalar.cmpi .slt v137 c0_i32_90
  let c0_i32_91 : BitVec 32 := 0#32
  let v140 : BitVec 1 := Scalar.cmpi .slt v136 c0_i32_91
  let v141 : BitVec 1 := Scalar.xori v139 v140
  let c0_i32_89 : BitVec 32 := 0#32
  let v138 : BitVec 1 := Scalar.cmpi .ne v137 c0_i32_89
  let v142 : BitVec 1 := Scalar.andi v141 v138
  let v143 : BitVec 32 := Scalar.addi v137 v136
  let v144 : BitVec 32 := Scalar.select v142 v143 v137
  let c1_i32_102 : BitVec 32 := 1#32
  let v162 : BitVec 32 := Scalar.muli v144 c1_i32_102
  let v163 : BitVec 32 := Scalar.addi c0_i32_103 v162
  v163.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_107 : BitVec 32 := 3#32
  let v171 : BitVec 32 := Scalar.addi v2 c3_i32_107
  let c8_i32_108 : BitVec 32 := 8#32
  let c0_i32_109 : BitVec 32 := 0#32
  let v172 : BitVec 1 := Scalar.cmpi .eq c8_i32_108 c0_i32_109
  let c1_i32_110 : BitVec 32 := 1#32
  let v173 : BitVec 32 := Scalar.select v172 c1_i32_110 c8_i32_108
  let v174 : BitVec 32 := Scalar.remsi v171 v173
  let c0_i32_112 : BitVec 32 := 0#32
  let v176 : BitVec 1 := Scalar.cmpi .slt v174 c0_i32_112
  let c0_i32_113 : BitVec 32 := 0#32
  let v177 : BitVec 1 := Scalar.cmpi .slt v173 c0_i32_113
  let v178 : BitVec 1 := Scalar.xori v176 v177
  let c0_i32_111 : BitVec 32 := 0#32
  let v175 : BitVec 1 := Scalar.cmpi .ne v174 c0_i32_111
  let v179 : BitVec 1 := Scalar.andi v178 v175
  let v180 : BitVec 32 := Scalar.addi v174 v173
  let v181 : BitVec 32 := Scalar.select v179 v180 v174
  let c1_i32_124 : BitVec 32 := 1#32
  let v199 : BitVec 32 := Scalar.muli v181 c1_i32_124
  let v200 : BitVec 32 := Scalar.addi c0_i32_125 v199
  v200.toNat
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_129 : BitVec 32 := 4#32
  let v208 : BitVec 32 := Scalar.addi v2 c4_i32_129
  let c8_i32_130 : BitVec 32 := 8#32
  let c0_i32_131 : BitVec 32 := 0#32
  let v209 : BitVec 1 := Scalar.cmpi .eq c8_i32_130 c0_i32_131
  let c1_i32_132 : BitVec 32 := 1#32
  let v210 : BitVec 32 := Scalar.select v209 c1_i32_132 c8_i32_130
  let v211 : BitVec 32 := Scalar.remsi v208 v210
  let c0_i32_134 : BitVec 32 := 0#32
  let v213 : BitVec 1 := Scalar.cmpi .slt v211 c0_i32_134
  let c0_i32_135 : BitVec 32 := 0#32
  let v214 : BitVec 1 := Scalar.cmpi .slt v210 c0_i32_135
  let v215 : BitVec 1 := Scalar.xori v213 v214
  let c0_i32_133 : BitVec 32 := 0#32
  let v212 : BitVec 1 := Scalar.cmpi .ne v211 c0_i32_133
  let v216 : BitVec 1 := Scalar.andi v215 v212
  let v217 : BitVec 32 := Scalar.addi v211 v210
  let v218 : BitVec 32 := Scalar.select v216 v217 v211
  let c1_i32_146 : BitVec 32 := 1#32
  let v236 : BitVec 32 := Scalar.muli v218 c1_i32_146
  let v237 : BitVec 32 := Scalar.addi c0_i32_147 v236
  v237.toNat
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_151 : BitVec 32 := 5#32
  let v245 : BitVec 32 := Scalar.addi v2 c5_i32_151
  let c8_i32_152 : BitVec 32 := 8#32
  let c0_i32_153 : BitVec 32 := 0#32
  let v246 : BitVec 1 := Scalar.cmpi .eq c8_i32_152 c0_i32_153
  let c1_i32_154 : BitVec 32 := 1#32
  let v247 : BitVec 32 := Scalar.select v246 c1_i32_154 c8_i32_152
  let v248 : BitVec 32 := Scalar.remsi v245 v247
  let c0_i32_156 : BitVec 32 := 0#32
  let v250 : BitVec 1 := Scalar.cmpi .slt v248 c0_i32_156
  let c0_i32_157 : BitVec 32 := 0#32
  let v251 : BitVec 1 := Scalar.cmpi .slt v247 c0_i32_157
  let v252 : BitVec 1 := Scalar.xori v250 v251
  let c0_i32_155 : BitVec 32 := 0#32
  let v249 : BitVec 1 := Scalar.cmpi .ne v248 c0_i32_155
  let v253 : BitVec 1 := Scalar.andi v252 v249
  let v254 : BitVec 32 := Scalar.addi v248 v247
  let v255 : BitVec 32 := Scalar.select v253 v254 v248
  let c1_i32_168 : BitVec 32 := 1#32
  let v273 : BitVec 32 := Scalar.muli v255 c1_i32_168
  let v274 : BitVec 32 := Scalar.addi c0_i32_169 v273
  v274.toNat
def k0_dev13 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_173 : BitVec 32 := 6#32
  let v282 : BitVec 32 := Scalar.addi v2 c6_i32_173
  let c8_i32_174 : BitVec 32 := 8#32
  let c0_i32_175 : BitVec 32 := 0#32
  let v283 : BitVec 1 := Scalar.cmpi .eq c8_i32_174 c0_i32_175
  let c1_i32_176 : BitVec 32 := 1#32
  let v284 : BitVec 32 := Scalar.select v283 c1_i32_176 c8_i32_174
  let v285 : BitVec 32 := Scalar.remsi v282 v284
  let c0_i32_178 : BitVec 32 := 0#32
  let v287 : BitVec 1 := Scalar.cmpi .slt v285 c0_i32_178
  let c0_i32_179 : BitVec 32 := 0#32
  let v288 : BitVec 1 := Scalar.cmpi .slt v284 c0_i32_179
  let v289 : BitVec 1 := Scalar.xori v287 v288
  let c0_i32_177 : BitVec 32 := 0#32
  let v286 : BitVec 1 := Scalar.cmpi .ne v285 c0_i32_177
  let v290 : BitVec 1 := Scalar.andi v289 v286
  let v291 : BitVec 32 := Scalar.addi v285 v284
  let v292 : BitVec 32 := Scalar.select v290 v291 v285
  let c1_i32_190 : BitVec 32 := 1#32
  let v310 : BitVec 32 := Scalar.muli v292 c1_i32_190
  let v311 : BitVec 32 := Scalar.addi c0_i32_191 v310
  v311.toNat
def k0_dev14 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_195 : BitVec 32 := 7#32
  let v319 : BitVec 32 := Scalar.addi v2 c7_i32_195
  let c8_i32_196 : BitVec 32 := 8#32
  let c0_i32_197 : BitVec 32 := 0#32
  let v320 : BitVec 1 := Scalar.cmpi .eq c8_i32_196 c0_i32_197
  let c1_i32_198 : BitVec 32 := 1#32
  let v321 : BitVec 32 := Scalar.select v320 c1_i32_198 c8_i32_196
  let v322 : BitVec 32 := Scalar.remsi v319 v321
  let c0_i32_200 : BitVec 32 := 0#32
  let v324 : BitVec 1 := Scalar.cmpi .slt v322 c0_i32_200
  let c0_i32_201 : BitVec 32 := 0#32
  let v325 : BitVec 1 := Scalar.cmpi .slt v321 c0_i32_201
  let v326 : BitVec 1 := Scalar.xori v324 v325
  let c0_i32_199 : BitVec 32 := 0#32
  let v323 : BitVec 1 := Scalar.cmpi .ne v322 c0_i32_199
  let v327 : BitVec 1 := Scalar.andi v326 v323
  let v328 : BitVec 32 := Scalar.addi v322 v321
  let v329 : BitVec 32 := Scalar.select v327 v328 v322
  let c1_i32_212 : BitVec 32 := 1#32
  let v347 : BitVec 32 := Scalar.muli v329 c1_i32_212
  let v348 : BitVec 32 := Scalar.addi c0_i32_213 v347
  v348.toNat
def k0_dev15 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v388 : BitVec 32 := Scalar.addi v2 c1_i32_230
  let c8_i32_231 : BitVec 32 := 8#32
  let c0_i32_232 : BitVec 32 := 0#32
  let v389 : BitVec 1 := Scalar.cmpi .eq c8_i32_231 c0_i32_232
  let c1_i32_233 : BitVec 32 := 1#32
  let v390 : BitVec 32 := Scalar.select v389 c1_i32_233 c8_i32_231
  let v391 : BitVec 32 := Scalar.remsi v388 v390
  let c0_i32_235 : BitVec 32 := 0#32
  let v393 : BitVec 1 := Scalar.cmpi .slt v391 c0_i32_235
  let c0_i32_236 : BitVec 32 := 0#32
  let v394 : BitVec 1 := Scalar.cmpi .slt v390 c0_i32_236
  let v395 : BitVec 1 := Scalar.xori v393 v394
  let c0_i32_234 : BitVec 32 := 0#32
  let v392 : BitVec 1 := Scalar.cmpi .ne v391 c0_i32_234
  let v396 : BitVec 1 := Scalar.andi v395 v392
  let v397 : BitVec 32 := Scalar.addi v391 v390
  let v398 : BitVec 32 := Scalar.select v396 v397 v391
  let c1_i32_239 : BitVec 32 := 1#32
  let v399 : BitVec 32 := Scalar.muli v398 c1_i32_239
  let v400 : BitVec 32 := Scalar.addi c0_i32_240 v399
  v400.toNat
def k0_dev16 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_243 : BitVec 32 := 2#32
  let v406 : BitVec 32 := Scalar.addi v2 c2_i32_243
  let c8_i32_244 : BitVec 32 := 8#32
  let c0_i32_245 : BitVec 32 := 0#32
  let v407 : BitVec 1 := Scalar.cmpi .eq c8_i32_244 c0_i32_245
  let c1_i32_246 : BitVec 32 := 1#32
  let v408 : BitVec 32 := Scalar.select v407 c1_i32_246 c8_i32_244
  let v409 : BitVec 32 := Scalar.remsi v406 v408
  let c0_i32_248 : BitVec 32 := 0#32
  let v411 : BitVec 1 := Scalar.cmpi .slt v409 c0_i32_248
  let c0_i32_249 : BitVec 32 := 0#32
  let v412 : BitVec 1 := Scalar.cmpi .slt v408 c0_i32_249
  let v413 : BitVec 1 := Scalar.xori v411 v412
  let c0_i32_247 : BitVec 32 := 0#32
  let v410 : BitVec 1 := Scalar.cmpi .ne v409 c0_i32_247
  let v414 : BitVec 1 := Scalar.andi v413 v410
  let v415 : BitVec 32 := Scalar.addi v409 v408
  let v416 : BitVec 32 := Scalar.select v414 v415 v409
  let c1_i32_252 : BitVec 32 := 1#32
  let v417 : BitVec 32 := Scalar.muli v416 c1_i32_252
  let v418 : BitVec 32 := Scalar.addi c0_i32_253 v417
  v418.toNat
def k0_dev17 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_256 : BitVec 32 := 3#32
  let v424 : BitVec 32 := Scalar.addi v2 c3_i32_256
  let c8_i32_257 : BitVec 32 := 8#32
  let c0_i32_258 : BitVec 32 := 0#32
  let v425 : BitVec 1 := Scalar.cmpi .eq c8_i32_257 c0_i32_258
  let c1_i32_259 : BitVec 32 := 1#32
  let v426 : BitVec 32 := Scalar.select v425 c1_i32_259 c8_i32_257
  let v427 : BitVec 32 := Scalar.remsi v424 v426
  let c0_i32_261 : BitVec 32 := 0#32
  let v429 : BitVec 1 := Scalar.cmpi .slt v427 c0_i32_261
  let c0_i32_262 : BitVec 32 := 0#32
  let v430 : BitVec 1 := Scalar.cmpi .slt v426 c0_i32_262
  let v431 : BitVec 1 := Scalar.xori v429 v430
  let c0_i32_260 : BitVec 32 := 0#32
  let v428 : BitVec 1 := Scalar.cmpi .ne v427 c0_i32_260
  let v432 : BitVec 1 := Scalar.andi v431 v428
  let v433 : BitVec 32 := Scalar.addi v427 v426
  let v434 : BitVec 32 := Scalar.select v432 v433 v427
  let c1_i32_265 : BitVec 32 := 1#32
  let v435 : BitVec 32 := Scalar.muli v434 c1_i32_265
  let v436 : BitVec 32 := Scalar.addi c0_i32_266 v435
  v436.toNat
def k0_dev18 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_269 : BitVec 32 := 4#32
  let v442 : BitVec 32 := Scalar.addi v2 c4_i32_269
  let c8_i32_270 : BitVec 32 := 8#32
  let c0_i32_271 : BitVec 32 := 0#32
  let v443 : BitVec 1 := Scalar.cmpi .eq c8_i32_270 c0_i32_271
  let c1_i32_272 : BitVec 32 := 1#32
  let v444 : BitVec 32 := Scalar.select v443 c1_i32_272 c8_i32_270
  let v445 : BitVec 32 := Scalar.remsi v442 v444
  let c0_i32_274 : BitVec 32 := 0#32
  let v447 : BitVec 1 := Scalar.cmpi .slt v445 c0_i32_274
  let c0_i32_275 : BitVec 32 := 0#32
  let v448 : BitVec 1 := Scalar.cmpi .slt v444 c0_i32_275
  let v449 : BitVec 1 := Scalar.xori v447 v448
  let c0_i32_273 : BitVec 32 := 0#32
  let v446 : BitVec 1 := Scalar.cmpi .ne v445 c0_i32_273
  let v450 : BitVec 1 := Scalar.andi v449 v446
  let v451 : BitVec 32 := Scalar.addi v445 v444
  let v452 : BitVec 32 := Scalar.select v450 v451 v445
  let c1_i32_278 : BitVec 32 := 1#32
  let v453 : BitVec 32 := Scalar.muli v452 c1_i32_278
  let v454 : BitVec 32 := Scalar.addi c0_i32_279 v453
  v454.toNat
def k0_dev19 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_282 : BitVec 32 := 5#32
  let v460 : BitVec 32 := Scalar.addi v2 c5_i32_282
  let c8_i32_283 : BitVec 32 := 8#32
  let c0_i32_284 : BitVec 32 := 0#32
  let v461 : BitVec 1 := Scalar.cmpi .eq c8_i32_283 c0_i32_284
  let c1_i32_285 : BitVec 32 := 1#32
  let v462 : BitVec 32 := Scalar.select v461 c1_i32_285 c8_i32_283
  let v463 : BitVec 32 := Scalar.remsi v460 v462
  let c0_i32_287 : BitVec 32 := 0#32
  let v465 : BitVec 1 := Scalar.cmpi .slt v463 c0_i32_287
  let c0_i32_288 : BitVec 32 := 0#32
  let v466 : BitVec 1 := Scalar.cmpi .slt v462 c0_i32_288
  let v467 : BitVec 1 := Scalar.xori v465 v466
  let c0_i32_286 : BitVec 32 := 0#32
  let v464 : BitVec 1 := Scalar.cmpi .ne v463 c0_i32_286
  let v468 : BitVec 1 := Scalar.andi v467 v464
  let v469 : BitVec 32 := Scalar.addi v463 v462
  let v470 : BitVec 32 := Scalar.select v468 v469 v463
  let c1_i32_291 : BitVec 32 := 1#32
  let v471 : BitVec 32 := Scalar.muli v470 c1_i32_291
  let v472 : BitVec 32 := Scalar.addi c0_i32_292 v471
  v472.toNat
def k0_dev20 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_295 : BitVec 32 := 6#32
  let v478 : BitVec 32 := Scalar.addi v2 c6_i32_295
  let c8_i32_296 : BitVec 32 := 8#32
  let c0_i32_297 : BitVec 32 := 0#32
  let v479 : BitVec 1 := Scalar.cmpi .eq c8_i32_296 c0_i32_297
  let c1_i32_298 : BitVec 32 := 1#32
  let v480 : BitVec 32 := Scalar.select v479 c1_i32_298 c8_i32_296
  let v481 : BitVec 32 := Scalar.remsi v478 v480
  let c0_i32_300 : BitVec 32 := 0#32
  let v483 : BitVec 1 := Scalar.cmpi .slt v481 c0_i32_300
  let c0_i32_301 : BitVec 32 := 0#32
  let v484 : BitVec 1 := Scalar.cmpi .slt v480 c0_i32_301
  let v485 : BitVec 1 := Scalar.xori v483 v484
  let c0_i32_299 : BitVec 32 := 0#32
  let v482 : BitVec 1 := Scalar.cmpi .ne v481 c0_i32_299
  let v486 : BitVec 1 := Scalar.andi v485 v482
  let v487 : BitVec 32 := Scalar.addi v481 v480
  let v488 : BitVec 32 := Scalar.select v486 v487 v481
  let c1_i32_304 : BitVec 32 := 1#32
  let v489 : BitVec 32 := Scalar.muli v488 c1_i32_304
  let v490 : BitVec 32 := Scalar.addi c0_i32_305 v489
  v490.toNat
def k0_dev21 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_308 : BitVec 32 := 7#32
  let v496 : BitVec 32 := Scalar.addi v2 c7_i32_308
  let c8_i32_309 : BitVec 32 := 8#32
  let c0_i32_310 : BitVec 32 := 0#32
  let v497 : BitVec 1 := Scalar.cmpi .eq c8_i32_309 c0_i32_310
  let c1_i32_311 : BitVec 32 := 1#32
  let v498 : BitVec 32 := Scalar.select v497 c1_i32_311 c8_i32_309
  let v499 : BitVec 32 := Scalar.remsi v496 v498
  let c0_i32_313 : BitVec 32 := 0#32
  let v501 : BitVec 1 := Scalar.cmpi .slt v499 c0_i32_313
  let c0_i32_314 : BitVec 32 := 0#32
  let v502 : BitVec 1 := Scalar.cmpi .slt v498 c0_i32_314
  let v503 : BitVec 1 := Scalar.xori v501 v502
  let c0_i32_312 : BitVec 32 := 0#32
  let v500 : BitVec 1 := Scalar.cmpi .ne v499 c0_i32_312
  let v504 : BitVec 1 := Scalar.andi v503 v500
  let v505 : BitVec 32 := Scalar.addi v499 v498
  let v506 : BitVec 32 := Scalar.select v504 v505 v499
  let c1_i32_317 : BitVec 32 := 1#32
  let v507 : BitVec 32 := Scalar.muli v506 c1_i32_317
  let v508 : BitVec 32 := Scalar.addi c0_i32_318 v507
  v508.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v588 : BitVec 32 := Scalar.muli v2 c512_i32
  let v589 : Index := Scalar.indexCast v588
  let c0_405 : Index := 0#32
  ![v589.toNat, 0]
def k0_off5 (d0 : Dev nD) (c1_i32_421 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v603 : BitVec 32 := Scalar.subi v2 c1_i32_421
  let c8_i32_422 : BitVec 32 := 8#32
  let c0_i32_423 : BitVec 32 := 0#32
  let v604 : BitVec 1 := Scalar.cmpi .eq c8_i32_422 c0_i32_423
  let c1_i32_424 : BitVec 32 := 1#32
  let v605 : BitVec 32 := Scalar.select v604 c1_i32_424 c8_i32_422
  let v606 : BitVec 32 := Scalar.remsi v603 v605
  let c0_i32_426 : BitVec 32 := 0#32
  let v608 : BitVec 1 := Scalar.cmpi .slt v606 c0_i32_426
  let c0_i32_427 : BitVec 32 := 0#32
  let v609 : BitVec 1 := Scalar.cmpi .slt v605 c0_i32_427
  let v610 : BitVec 1 := Scalar.xori v608 v609
  let c0_i32_425 : BitVec 32 := 0#32
  let v607 : BitVec 1 := Scalar.cmpi .ne v606 c0_i32_425
  let v611 : BitVec 1 := Scalar.andi v610 v607
  let v612 : BitVec 32 := Scalar.addi v606 v605
  let v613 : BitVec 32 := Scalar.select v611 v612 v606
  let c512_i32_433 : BitVec 32 := 512#32
  let v627 : BitVec 32 := Scalar.muli v613 c512_i32_433
  let v628 : Index := Scalar.indexCast v627
  let c0_434 : Index := 0#32
  ![v628.toNat, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Ideal.Protocol.lean ====
/-
  The protocol of the eight-device kernel: the mesh, the buffers' parts, the semaphore cells, what each of them
  hands over, and the levels that order the waits.

  Device `c` speaks to its seven peers by distance: `fwd i c` is the device `i + 1` places further round,
  `bwd i c` the one `i + 1` places back. Each device has 29 cells, and each is used for one round.

  * The barrier cell of `c` is raised once by every peer and waited on once, for seven. The peer at distance `i`
    behind `c` raises it as duty `i`, and hands over the two places `c` will later write on that peer: a slot of
    its landing buffer and a row of its buffer of maxima.
  * Data cell `(0, i)` of `c` completes when the copy of `c`'s block for `fwd i c` has been read; it gives the
    block's place in `c`'s own product buffer back.
  * Data cell `(1, i)` of `c` completes when the block of `bwd i c` has landed in slot `i` of `c`; it hands over
    that slot, holding the block of `bwd i c`'s rows and `c`'s columns.
  * Cells `(2, i)` and `(3, i)` do the same for the rows of maxima: `(2, i)` gives a share of `c`'s own row back,
    `(3, i)` hands over row `i` of `c`'s buffer of maxima, holding the row of `bwd i c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' ghost state for the exchange, its duties named by the seven distances. -/
abbrev UX : Type := URounds (GSem nD τ sig) (Fin 7)
/-- The whole ghost state: the pipeline's and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## The mesh -/

/-- The device `i + 1` places further round the mesh. -/
def fwd (i : Fin 7) (c : Dev nD) : Dev nD := ⟨(c.val + (i.val + 1)) % 8, Nat.mod_lt _ (by decide)⟩
/-- The device `i + 1` places back. -/
def bwd (i : Fin 7) (c : Dev nD) : Dev nD := ⟨(c.val + (7 - i.val)) % 8, Nat.mod_lt _ (by decide)⟩
/-- The distance that completes `i` to a whole turn. -/
def rev (i : Fin 7) : Fin 7 := ⟨6 - i.val, by omega⟩

theorem bwd_fwd (i : Fin 7) (c : Dev nD) : bwd i (fwd i c) = c := by revert i c; decide
theorem fwd_bwd (i : Fin 7) (c : Dev nD) : fwd i (bwd i c) = c := by revert i c; decide
theorem fwd_rev_fwd (i : Fin 7) (c : Dev nD) : fwd (rev i) (fwd i c) = c := by revert i c; decide
theorem rev_rev (i : Fin 7) : rev (rev i) = i := by revert i; decide

/-- Going `i + 1` places round, as a permutation of the devices. -/
def turn (i : Fin 7) : Dev nD ≃ Dev nD := ⟨fwd i, bwd i, bwd_fwd i, fwd_bwd i⟩
/-- Completing to a whole turn, as a permutation of the distances. -/
def revEquiv : Fin 7 ≃ Fin 7 := ⟨rev, rev, rev_rev, rev_rev⟩

theorem fwd_injective (c : Dev nD) : Function.Injective fun i => fwd i c := by
  intro i j; revert i j c; decide
theorem bwd_injective (c : Dev nD) : Function.Injective fun i => bwd i c := by
  intro i j; revert i j c; decide
theorem univ_fwd (c : Dev nD) : (Finset.univ : Finset (Dev nD)) = insert c (Finset.univ.map ⟨fun i => fwd i c, fwd_injective c⟩) := by
  revert c; decide
theorem univ_bwd (c : Dev nD) : (Finset.univ : Finset (Dev nD)) = insert c (Finset.univ.map ⟨fun i => bwd i c, bwd_injective c⟩) := by
  revert c; decide

omit [FloatOps F] in
/-- A family over the devices is its member at `c` and its members at `c`'s peers ahead. -/
theorem bigSep_fwd (c : Dev nD) (Φ : Dev nD → sProp 𝕄) :
    bigSep Finset.univ Φ = iprop(Φ c ∗ bigSep Finset.univ fun i => Φ (fwd i c)) := by
  rw [univ_fwd c, bigSep_insert (by revert c; decide), bigSep_map]; rfl
omit [FloatOps F] in
/-- The same with the peers counted backwards. -/
theorem bigSep_bwd (c : Dev nD) (Φ : Dev nD → sProp 𝕄) :
    bigSep Finset.univ Φ = iprop(Φ c ∗ bigSep Finset.univ fun i => Φ (bwd i c)) := by
  rw [univ_bwd c, bigSep_insert (by revert c; decide), bigSep_map]; rfl

/-! ## The distances still to be served, and those served -/

/-- The distances from the `k`-th on. -/
def todo (k : ℕ) : Finset (Fin 7) := Finset.univ.filter fun i => k ≤ i.val
/-- The distances before the `k`-th. -/
def done (k : ℕ) : Finset (Fin 7) := Finset.univ.filter fun i => i.val < k

theorem todo_zero : todo 0 = Finset.univ := by decide
theorem todo_end : todo 7 = ∅ := by decide
theorem done_zero : done 0 = ∅ := by decide
theorem done_end : done 7 = Finset.univ := by decide
theorem todo_step (i : Fin 7) : todo i.val = insert i (todo (i.val + 1)) := by revert i; decide
theorem not_mem_todo (i : Fin 7) : i ∉ todo (i.val + 1) := by revert i; decide
theorem done_step (i : Fin 7) : done (i.val + 1) = insert i (done i.val) := by revert i; decide
theorem not_mem_done (i : Fin 7) : i ∉ done i.val := by revert i; decide

omit [FloatOps F] in
/-- The next member is taken from what is to be served. -/
theorem todo_peel (i : Fin 7) (Φ : Fin 7 → sProp 𝕄) : bigSep (todo i.val) Φ = iprop(Φ i ∗ bigSep (todo (i.val + 1)) Φ) := by
  rw [todo_step, bigSep_insert (not_mem_todo i)]; rfl
omit [FloatOps F] in
/-- It joins what has been served. -/
theorem done_push (i : Fin 7) (Φ : Fin 7 → sProp 𝕄) : bigSep (done (i.val + 1)) Φ = iprop(Φ i ∗ bigSep (done i.val) Φ) := by
  rw [done_step, bigSep_insert (not_mem_done i)]; rfl

/-! ## The kernel's addresses in closed form -/

/-- The first signal's, first copy's and first row's targets are `fwd 0 c`, and so on in order. -/
theorem signal_devs (c : Dev nD) :
    k0_dev1 c = (fwd 0 c).val ∧ k0_dev2 c = (fwd 1 c).val ∧ k0_dev3 c = (fwd 2 c).val ∧ k0_dev4 c = (fwd 3 c).val
      ∧ k0_dev5 c = (fwd 4 c).val ∧ k0_dev6 c = (fwd 5 c).val ∧ k0_dev7 c = (fwd 6 c).val := by
  revert c; decide +kernel
theorem data_devs (c : Dev nD) :
    k0_dev8 c = (fwd 0 c).val ∧ k0_dev9 c = (fwd 1 c).val ∧ k0_dev10 c = (fwd 2 c).val ∧ k0_dev11 c = (fwd 3 c).val
      ∧ k0_dev12 c = (fwd 4 c).val ∧ k0_dev13 c = (fwd 5 c).val ∧ k0_dev14 c = (fwd 6 c).val := by
  revert c; decide +kernel
theorem amax_devs (c : Dev nD) :
    k0_dev15 c = (fwd 0 c).val ∧ k0_dev16 c = (fwd 1 c).val ∧ k0_dev17 c = (fwd 2 c).val ∧ k0_dev18 c = (fwd 3 c).val
      ∧ k0_dev19 c = (fwd 4 c).val ∧ k0_dev20 c = (fwd 5 c).val ∧ k0_dev21 c = (fwd 6 c).val := by
  revert c; decide +kernel

/-- The columns of `w`, of the product buffer when stored, and of the product buffer when copied, at distance
    `i`: those of device `fwd i c`. The last columns of `w` are the device's own. -/
theorem wcols_at (c : Dev nD) (i : Fin 7) : k0_off1 c (BitVec.ofNat 32 (1 + i.val)) = ![0, 256 * (fwd i c).val] := by
  have h : ∀ (c : Dev nD) (i : Fin 7) (a : Fin 2), k0_off1 c (BitVec.ofNat 32 (1 + i.val)) a = (![0, 256 * (fwd i c).val] : Fin 2 → Nat) a := by
    decide +kernel
  exact funext (h c i)
theorem wcols_own (c : Dev nD) : k0_off1 c 8#32 = ![0, 256 * c.val] := by
  have h : ∀ (c : Dev nD) (a : Fin 2), k0_off1 c 8#32 a = (![0, 256 * c.val] : Fin 2 → Nat) a := by decide +kernel
  exact funext (h c)
theorem ycols_at (c : Dev nD) (i : Fin 7) : k0_off2 c (BitVec.ofNat 32 (1 + i.val)) = ![0, 256 * (fwd i c).val] := by
  have h : ∀ (c : Dev nD) (i : Fin 7) (a : Fin 2), k0_off2 c (BitVec.ofNat 32 (1 + i.val)) a = (![0, 256 * (fwd i c).val] : Fin 2 → Nat) a := by
    decide +kernel
  exact funext (h c i)
theorem ysent_at (c : Dev nD) (i : Fin 7) : k0_off3 c (BitVec.ofNat 32 (1 + i.val)) = ![0, 256 * (fwd i c).val] := by
  have h : ∀ (c : Dev nD) (i : Fin 7) (a : Fin 2), k0_off3 c (BitVec.ofNat 32 (1 + i.val)) a = (![0, 256 * (fwd i c).val] : Fin 2 → Nat) a := by
    decide +kernel
  exact funext (h c i)
/-- The rows of the result: the device's own, and those of `bwd i c` at distance `i`. -/
theorem orows_own (c : Dev nD) : k0_off4 c = ![512 * c.val, 0] := k0_off4_eq c
theorem orows_at (c : Dev nD) (i : Fin 7) : k0_off5 c (BitVec.ofNat 32 (1 + i.val)) = ![512 * (bwd i c).val, 0] := by
  have h : ∀ (c : Dev nD) (i : Fin 7) (a : Fin 2), k0_off5 c (BitVec.ofNat 32 (1 + i.val)) a = (![512 * (bwd i c).val, 0] : Fin 2 → Nat) a := by
    decide +kernel
  exact funext (h c i)

/-! ## The buffers and their parts -/

/-- The staged `x`, `w` and result; the product, the landing slots, the own row of maxima, the rows received. -/
abbrev xM : Memref sig .tc .vmem S512x4096 .bf16 := Memref.whole cc0_stg0_0
abbrev wM : Memref sig .tc .vmem S4096x2048 .bf16 := Memref.whole cc0_stg1_0
abbrev oM : Memref sig .tc .vmem S4096x256 .bf16 := Memref.whole cc0_stg2_0
abbrev yM : Memref sig .tc .vmem S512x2048 .bf16 := Memref.whole cc0_scratch0
abbrev lM : Memref sig .tc .vmem S7x512x256 .bf16 := Memref.whole cc0_scratch1
abbrev gM : Memref sig .tc .vmem S1x128 .f32 := Memref.whole cc0_scratch2
abbrev hM : Memref sig .tc .vmem S7x128 .f32 := Memref.whole cc0_scratch3

/-- The columns of `w` belonging to device `j`; -/
abbrev wCols (j : Dev nD) : Rect S4096x2048 := Rect.unit (s := S4096x2048) ![0, 256 * j.val] S4096x256.size (by revert j; decide +kernel)
/-- the columns of the product belonging to device `j`; -/
abbrev yCols (j : Dev nD) : Rect S512x2048 := Rect.unit (s := S512x2048) ![0, 256 * j.val] S512x256.size (by revert j; decide +kernel)
/-- the rows of the result coming from device `j`; -/
abbrev oRows (j : Dev nD) : Rect S4096x256 := Rect.unit (s := S4096x256) ![512 * j.val, 0] S512x256.size (by revert j; decide +kernel)
/-- slot `i` of the landing buffer; -/
abbrev lSlot (i : Fin 7) : Rect S7x512x256 := Rect.unit (s := S7x512x256) ![i.val, 0, 0] S1x512x256.size (by revert i; decide +kernel)
/-- row `i` of the received maxima. -/
abbrev hRow (i : Fin 7) : Rect S7x128 := Rect.unit (s := S7x128) ![i.val, 0] S1x128.size (by revert i; decide +kernel)

abbrev yPart (j : Dev nD) : Memref sig .tc .vmem S512x256 .bf16 := yM.slice (yCols j) (fun _ => rfl)
abbrev oPart (j : Dev nD) : Memref sig .tc .vmem S512x256 .bf16 := oM.slice (oRows j) (fun _ => rfl)
abbrev lPart (i : Fin 7) : Memref sig .tc .vmem S1x512x256 .bf16 := lM.slice (lSlot i) (fun _ => rfl)
abbrev lFlat (i : Fin 7) : Memref sig .tc .vmem S512x256 .bf16 := (lPart i).squeeze S512x256 squeezes_S1x512x256_S512x256
abbrev hPart (i : Fin 7) : Memref sig .tc .vmem S1x128 .f32 := hM.slice (hRow i) (fun _ => rfl)

/-! ## The cells -/

/-- The runtime's barrier semaphore. -/
abbrev barS : Sem sig := (SemArray.scalar (sig.barrier 0 rfl) : Sems sig S_).sem
/-- The copies' semaphores: array `k` (data out, data in, maxima out, maxima in) at distance `i`. -/
def dsem (k : Fin 4) (i : Fin 7) : DmaSem sig := ⟨3 + 7 * k.val + i.val, by have := k.isLt; have := i.isLt; show _ < 31; omega⟩

/-- A device's cells by name: its barrier, or a copy's semaphore. -/
abbrev CK : Type := Option (Fin 4 × Fin 7)
def csem : CK → SemLoc sig
  | none => .reg barS
  | some (k, i) => .dma (dsem k i)
abbrev kcell (ck : Dev nD × CK) : GSem nD τ sig := ((ck.1 : Thread nD τ), csem ck.2)
abbrev barCell (c : Dev nD) : GSem nD τ sig := ((c : Thread nD τ), .reg barS)
abbrev dCell (k : Fin 4) (i : Fin 7) (c : Dev nD) : GSem nD τ sig := ((c : Thread nD τ), .dma (dsem k i))

/-- The name of a semaphore, if it is one of the exchange's. -/
def nameOf : SemLoc sig → Option CK
  | .reg s => if s = barS then some none else none
  | .dma q => if h : 3 ≤ q.val then some (some (⟨(q.val - 3) / 7, by have : q.val < 31 := q.isLt; omega⟩, ⟨(q.val - 3) % 7, Nat.mod_lt _ (by decide)⟩)) else none

theorem nameOf_bar : nameOf (.reg barS) = some none := by simp [nameOf]
theorem nameOf_dsem (k : Fin 4) (i : Fin 7) : nameOf (.dma (dsem k i)) = some (some (k, i)) := by revert k i; decide
theorem nameOf_csem (x : CK) : nameOf (csem x) = some x := by
  rcases x with _ | ⟨k, i⟩
  · exact nameOf_bar
  · exact nameOf_dsem k i
theorem csem_injective : Function.Injective csem := fun x y h => by
  have := congrArg nameOf h; rw [nameOf_csem, nameOf_csem] at this; exact Option.some.inj this

theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

/-- What a copy of a block credits, and a copy of a row of maxima. -/
abbrev ND : ℕ := (yPart 0).view.dmaCredit
abbrev NA : ℕ := gM.view.dmaCredit
theorem ND_pos : 0 < ND := View.dmaCredit_pos _ (by decide)
theorem NA_pos : 0 < NA := View.dmaCredit_pos _ (by decide)
/-- The credit of a copy completing on array `k`. -/
def credit (k : Fin 4) : ℕ := if k.val < 2 then ND else NA
theorem credit_pos (k : Fin 4) : 0 < credit k := by unfold credit; split; exacts [ND_pos, NA_pos]

/-! ## The contents -/

/-- Device `c`'s staged block of `x` and its staged `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- What `c` reads of `x`, and of `w` at device `j`'s columns. -/
def xval (c : Dev nD) : FVec F S512x4096 .bf16 :=
  k0_pay2 (xM.view.readAt (Elt F) (Rect.unit (s := S512x4096) ![0, 0] S512x4096.size inb_S512x4096_S512x4096_0_0).toLoadRect (xstg m ρ c))
def wval (c j : Dev nD) : Vec F S4096x256 .bf16 := wM.view.readAt (Elt F) (wCols j).toLoadRect (wstg m ρ c)

/-- The block of `c`'s rows and `j`'s columns, as stored; and the greatest magnitude in it before it is stored. -/
def yval (c j : Dev nD) : FVec F S512x256 .bf16 := k0_pay5 (xval m ρ c) (wval m ρ c j)
def bmax (c : Dev nD) (i : Fin 7) : F .f32 := k0_pay4 (xval m ρ c) (wval m ρ c (fwd i c))
/-- The greatest magnitude in `c`'s rows, and the row `c` sends it in. -/
def lmax (c : Dev nD) : F .f32 :=
  k0_pay25 (xval m ρ c) (bmax m ρ c 0) (bmax m ρ c 1) (bmax m ρ c 2) (bmax m ρ c 3) (bmax m ρ c 4) (bmax m ρ c 5) (bmax m ρ c 6) (wval m ρ c c)
def grow (c : Dev nD) : FVec F S1x128 .f32 :=
  k0_pay26 (xval m ρ c) (bmax m ρ c 0) (bmax m ρ c 1) (bmax m ρ c 2) (bmax m ρ c 3) (bmax m ρ c 4) (bmax m ρ c 5) (bmax m ρ c 6) (wval m ρ c c)
/-- The rows of maxima `c` receives: row `i` is `bwd i c`'s. -/
def hval (c : Dev nD) : FVec F S7x128 .f32 := fun j => grow m ρ (bwd (j 0) c) fun a => match a with
  | ⟨0, _⟩ => (0 : Fin 1)
  | ⟨1, _⟩ => j 1
/-- The scale and its inverse. -/
def scale (c : Dev nD) : F .f32 := k0_pay28 (lmax m ρ c) (hval m ρ c)
def inv (c : Dev nD) : F .f32 := k0_pay29 (lmax m ρ c) (hval m ρ c)
/-- The block of the result on `c` that comes from device `j`: its own from the product before storing, a peer's from
    the block landed. -/
def oval (c j : Dev nD) : FVec F S512x256 .bf16 :=
  if j = c then k0_pay30 (k0_pay24 (xval m ρ c) (wval m ρ c c)) (lmax m ρ c) (hval m ρ c)
  else k0_pay1 (scale m ρ c) (inv m ρ c) (yval m ρ j c)

/-! ## What the cells hand over -/

/-- The places on device `p` that its peer at distance `i` behind it writes, at some contents. -/
def gift (i : Fin 7) (p : Dev nD) : sProp 𝕄 :=
  iprop((∃ X, owns (p : Thread nD τ) (lFlat i) fullShare X) ∗ (∃ X, owns (p : Thread nD τ) (hPart i) fullShare X))
/-- What duty `d` of `c`'s barrier hands `c`: the places on the peer that pays it. -/
def barPay (c : Dev nD) (d : Fin 7) : sProp 𝕄 := gift (rev d) (fwd (rev d) c)
/-- What a copy's cell hands `c`. -/
def dmaPay (k : Fin 4) (i : Fin 7) (c : Dev nD) : sProp 𝕄 := match k with
  | 0 => iprop(∃ X, owns (c : Thread nD τ) (yPart (fwd i c)) fullShare X)
  | 1 => owns (c : Thread nD τ) (lFlat i) fullShare (yval m ρ (bwd i c) c)
  | 2 => owns (c : Thread nD τ) gM (Transfers.shareTok fullShare 7 i) (grow m ρ c)
  | 3 => owns (c : Thread nD τ) (hPart i) fullShare (grow m ρ (bwd i c))

omit [FloatOps F] in
instance gift_storable (i : Fin 7) (p : Dev nD) : BI.Storable (upEmb : UEmb _ 𝕄) (gift (F := F) i p) := by unfold gift; infer_instance
omit [FloatOps F] in
instance barPay_storable (c : Dev nD) (d : Fin 7) : BI.Storable (upEmb : UEmb _ 𝕄) (barPay (F := F) c d) := by unfold barPay; infer_instance
instance dmaPay_storable (k : Fin 4) (i : Fin 7) (c : Dev nD) : BI.Storable (upEmb : UEmb _ 𝕄) (dmaPay m ρ k i c) := by
  unfold dmaPay; split <;> infer_instance

/-- What a duty of a cell of a given name adds to it. -/
def unitOf : Option CK → ℕ
  | some (some (k, _)) => credit k
  | some none => 1
  | none => 1
theorem unitOf_pos : ∀ x, 0 < unitOf x
  | some (some (k, _)) => credit_pos k
  | some none => Nat.one_pos
  | none => Nat.one_pos
/-- The duties of a cell of a given name. -/
def dutiesOf : Option CK → Finset (Fin 7)
  | some (some _) => {0}
  | some none => Finset.univ
  | none => ∅
/-- What a duty of a cell of device `c` of a given name hands over. -/
def payOf (c : Dev nD) (d : Fin 7) : Option CK → sProp 𝕄
  | some (some (k, i)) => dmaPay m ρ k i c
  | some none => barPay c d
  | none => iprop(emp)
instance payOf_storable (c : Dev nD) (d : Fin 7) : ∀ x, BI.Storable (upEmb : UEmb _ 𝕄) (payOf m ρ c d x)
  | some (some (k, i)) => dmaPay_storable m ρ k i c
  | some none => barPay_storable c d
  | none => by unfold payOf; infer_instance

/-- The schedule: one round, round 0. A barrier cell has the seven duties, of one unit each; a copy's cell the one
    duty `0`, of the copy's credit. -/
def rd : Rounds.Schedule (GSem nD τ sig) (Fin 7) 𝕄 where
  duties g r := if r = 0 ∧ g.1.2 = .tc then dutiesOf (nameOf g.2) else ∅
  unitless _ := False
  amount g _ _ := unitOf (nameOf g.2)
  payload g _ d := payOf m ρ g.1.1 d (nameOf g.2)
  amount_pos g _ _ _ := unitOf_pos _

instance rd_payload_storable (g : GSem nD τ sig) (r : ℕ) (d : Fin 7) : BI.Storable (upEmb : UEmb _ 𝕄) ((rd m ρ).payload g r d) :=
  payOf_storable m ρ g.1.1 d (nameOf g.2)

section Sched
variable (c : Dev nD) (k : Fin 4) (i d : Fin 7)

theorem duties_bar : (rd m ρ).duties (barCell c) 0 = Finset.univ := by
  dsimp only [rd]; rw [if_pos ⟨rfl, rfl⟩, nameOf_bar]; rfl
theorem duties_dma : (rd m ρ).duties (dCell k i c) 0 = {0} := by
  dsimp only [rd]; rw [if_pos ⟨rfl, rfl⟩, nameOf_dsem]; rfl
theorem duties_later (g : GSem nD τ sig) : ∀ r, 1 ≤ r → (rd m ρ).duties g r = ∅ :=
  fun r hr => by dsimp only [rd]; rw [if_neg fun h => by omega]
theorem amount_bar : (rd m ρ).amount (barCell c) 0 d = 1 := by dsimp only [rd]; rw [nameOf_bar]; rfl
theorem amount_dma : (rd m ρ).amount (dCell k i c) 0 d = credit k := by dsimp only [rd]; rw [nameOf_dsem]; rfl
theorem payload_bar : (rd m ρ).payload (barCell c) 0 d = barPay c d := by dsimp only [rd]; rw [nameOf_bar]; rfl
theorem payload_dma : (rd m ρ).payload (dCell k i c) 0 d = dmaPay m ρ k i c := by dsimp only [rd]; rw [nameOf_dsem]; rfl
theorem expect_bar : (rd m ρ).expect (barCell c) 0 = 7 := by
  unfold Schedule.expect Schedule.amountOf
  rw [duties_bar, Finset.sum_congr rfl fun d _ => amount_bar m ρ c d]; rfl
theorem expect_dma : (rd m ρ).expect (dCell k i c) 0 = credit k := by
  unfold Schedule.expect Schedule.amountOf; rw [duties_dma, Finset.sum_singleton, amount_dma]
/-- What a whole round hands over: the seven places on the peers; a copy's one payload. -/
theorem rest_bar : bigSep ((rd m ρ).duties (barCell c) 0 \ ∅) (fun d => (rd m ρ).payload (barCell c) 0 d)
    = bigSep Finset.univ fun i => gift (F := F) i (fwd i c) := by
  rw [Finset.sdiff_empty, duties_bar, bigSep_univ_equiv revEquiv]
  exact bigSep_congr fun i _ => by rw [payload_bar]; show gift (rev (rev i)) (fwd (rev (rev i)) c) = _; rw [rev_rev]
theorem rest_dma : bigSep ((rd m ρ).duties (dCell k i c) 0 \ ∅) (fun d => (rd m ρ).payload (dCell k i c) 0 d) = dmaPay m ρ k i c := by
  rw [Finset.sdiff_empty, duties_dma, bigSep_singleton, payload_dma]

end Sched

/-! ## What a device owes, and the levels -/

/-- What `c` owes the distances from the `k`-th on: a unit on each peer's barrier; -/
def owedBar (k : ℕ) (c : Dev nD) : CellTallies nD τ sig Unit := ∑ i ∈ todo k, tallyAt (barCell (fwd i c)) () 1
/-- and on each peer's cells of array `a` the copy's credit. -/
def owedDma (a : Fin 4) (k : ℕ) (c : Dev nD) : CellTallies nD τ sig Unit := ∑ i ∈ todo k, tallyAt (dCell a i (fwd i c)) () (credit a)
/-- What `c` owes at launch. -/
def O₀ (c : Dev nD) : CellTallies nD τ sig Unit := owedDma 1 0 c + owedDma 3 0 c + owedBar 0 c

theorem owedBar_peel (i : Fin 7) (c : Dev nD) : owedBar i.val c = owedBar (i.val + 1) c + tallyAt (barCell (fwd i c)) () 1 := by
  unfold owedBar; rw [todo_step, Finset.sum_insert (not_mem_todo i), add_comm]
theorem owedDma_peel (a : Fin 4) (i : Fin 7) (c : Dev nD) :
    owedDma a i.val c = owedDma a (i.val + 1) c + tallyAt (dCell a i (fwd i c)) () (credit a) := by
  unfold owedDma; rw [todo_step, Finset.sum_insert (not_mem_todo i), add_comm]
theorem owedBar_end (c : Dev nD) : owedBar 7 c = 0 := by unfold owedBar; rw [todo_end]; rfl
theorem owedDma_end (a : Fin 4) (c : Dev nD) : owedDma a 7 c = 0 := by unfold owedDma; rw [todo_end]; rfl

def L (g : GSem nD τ sig) : Finset Unit := if g.1.2 = .tc then {()} else ∅
/-- Barriers at level 1, the cells that copies land on at 2, the rest at 0. -/
def lv (g : GSem nD τ sig) (_ : Unit) : ℕ := match nameOf g.2 with
  | some none => 1
  | some (some (k, _)) => if k = 1 ∨ k = 3 then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset (Fin 7)} {f : Fin 7 → GSem nD τ sig} {n : ℕ} {g : GSem nD τ sig} {u : Unit}
    (h : 0 < (∑ i ∈ S, (tallyAt (f i) () n : CellTallies nD τ sig Unit)) g u) : ∃ i, g = f i := by
  by_contra hn
  rw [Finset.sum_apply, Finsupp.finset_sum_apply] at h
  refine absurd h (Nat.not_lt.2 (Nat.le_of_eq (Finset.sum_eq_zero fun i _ => ?_)))
  rw [tallyAt_apply, if_neg fun h' => hn ⟨i, h'.1⟩]

theorem owedDma_pos {a : Fin 4} {k : ℕ} {c : Dev nD} {g : GSem nD τ sig} {u : Unit} (h : 0 < owedDma a k c g u) : ∃ i d, g = dCell a i d := by
  obtain ⟨i, hi⟩ := sum_tally_pos h; exact ⟨i, _, hi⟩

/-- Anything owed on landing cells is on one of them. -/
theorem landing_pos {c : Dev nD} {g : GSem nD τ sig} {u : Unit} (h : 0 < (owedDma 1 0 c + owedDma 3 0 c) g u) :
    ∃ a i d, (a = 1 ∨ a = 3) ∧ g = dCell a i d := by
  rw [Pi.add_apply, Finsupp.add_apply] at h
  rcases Nat.eq_zero_or_pos (owedDma 1 0 c g u) with h0 | h0
  · obtain ⟨i, d, hg⟩ := owedDma_pos (by omega : 0 < owedDma 3 0 c g u); exact ⟨3, i, d, .inr rfl, hg⟩
  · obtain ⟨i, d, hg⟩ := owedDma_pos h0; exact ⟨1, i, d, .inl rfl, hg⟩

theorem lv_landing {a : Fin 4} (ha : a = 1 ∨ a = 3) (i : Fin 7) (d : Dev nD) : lv (dCell a i d) () = 2 := by
  dsimp only [lv]; rw [nameOf_dsem]; exact if_pos ha
theorem lv_bar (d : Dev nD) : lv (barCell d) () = 1 := by dsimp only [lv]; rw [nameOf_bar]

omit [FloatOps F] in
/-- A staging wait is below everything owed at launch. -/
theorem mayWait_stage (c : Dev nD) (q : DmaSem sig) (hq : nameOf (.dma q) = none) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → L g = {()} ∧ 0 < lv g () := fun g u hg => by
      unfold O₀ at hg
      rw [Pi.add_apply, Finsupp.add_apply] at hg
      rcases Nat.eq_zero_or_pos ((owedDma 1 0 c + owedDma 3 0 c) g u) with h0 | h0
      · obtain ⟨i, rfl⟩ := sum_tally_pos (show 0 < owedBar 0 c g u by omega)
        exact ⟨L_tc _ _, by rw [lv_bar]; decide⟩
      · obtain ⟨a, i, d, ha, rfl⟩ := landing_pos h0
        exact ⟨L_tc _ _, by rw [lv_landing ha]; decide⟩
    refine MayOwe.of_cut (L := L) (lev := lv) 0 (fun p hp => by rw [Finset.mem_singleton.mp hp, L_tc]; exact Finset.mem_singleton_self _)
      (fun g u hg => by rw [(key g u hg).1]; exact Finset.mem_singleton_self _)
      (fun p hp => by rw [Finset.mem_singleton.mp hp]; dsimp only [lv]; rw [hq])
      (fun g u hg => (key g u hg).2)
  · rw [MayWait_zero]; iintro -; iempintro

omit [FloatOps F] in
/-- At its barrier wait a device owes only landings, which are above. -/
theorem mayWait_bar (c : Dev nD) :
    (levAts L lv : sProp 𝕄) ⊢ MayWait (c : Thread nD τ) (.reg barS) () (owedDma 1 0 c + owedDma 3 0 c) :=
  MayOwe.of_cut (L := L) (lev := lv) 1 (fun p hp => by rw [Finset.mem_singleton.mp hp, L_tc]; exact Finset.mem_singleton_self _)
    (fun g u hg => by obtain ⟨a, i, d, ha, rfl⟩ := landing_pos hg; rw [L_tc]; exact Finset.mem_singleton_self _)
    (fun p hp => by rw [Finset.mem_singleton.mp hp]; exact le_of_eq (lv_bar c))
    (fun g u hg => by obtain ⟨a, i, d, ha, rfl⟩ := landing_pos hg; rw [lv_landing ha]; decide)

end Cert.KernelIdeal.Exchange

end
-- ==== Proof.Ideal.Steps.lean ====
/-
  The kernel's steps, each proved once for every distance `i`: a signal, a block of the product, the copy that sends
  it, the copy that sends a row of maxima, the waits for those, and the part of the result that a block becomes.
  What a device holds while it goes through the distances is a family over those still to be served and a family
  over those served; a step moves its own distance from the first to the second.
-/
module

public import proofs.«01_k».proof.Proof.Ideal.Protocol
public import Idealize.ShloMosaic.Lib.Rounds.Family

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to a state where `Q` holds of what it returns. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

variable {Q : PUnit.{1} → sProp (MT nD τ sig Unit (Elt F) ℕ UU ℕ)}

/-! ## Loads and stores of a part of a buffer -/

/-- A load of a part owned at `X` reads `X`. -/
theorem load_part (c : Dev nD) {s : Shape} {e : EltTy} (b : Memref sig .tc .vmem s e) (r : Rect s) (hr : ∀ a, r.stride a = 1) {q : PosShare TreeShare}
    {hl : b.view.LoadsAt r} {k : (r.shape.Idx → Elt F e) → Prog (TpuEff nD τ sig (Elt F) Λ₀ .tc) PUnit} (X : r.shape.Idx → Elt F e) :
    owns (c : Thread nD τ) (b.slice r hr) q X
      ⊢ iprop((owns (c : Thread nD τ) (b.slice r hr) q X -∗ runs c (k X) Q) -∗ runs c (.op (.load b r hl) k) Q) := by
  unfold owns
  iintro ⟨%f, %hf, H⟩ Hk
  iapply (wp_load_rect 𝒱₀ (c : Thread nD τ) none Set.univ (m := b) (r := r) (Finset.Subset.refl _)) $$ H
  iintro H
  rw [show (b.access r).read (Elt F) f = X from hf]
  iapply Hk
  iexists f
  isplitr; · ipureintro; exact hf
  iexact H

/-- A store over a whole part leaves it owned at what was stored. -/
theorem store_part (c : Dev nD) {s : Shape} {e : EltTy} (b : Memref sig .tc .vmem s e) (r : Rect s) (hr : ∀ a, r.stride a = 1)
    {w : r.shape.Idx → Elt F e} {hx : (b.access r).Stores Finset.univ} {hm : Finset.univ = Finset.univ ∨ ∀ a, r.stride a = 1}
    {k : PUnit → Prog (TpuEff nD τ sig (Elt F) Λ₀ .tc) PUnit} (X : r.shape.Idx → Elt F e) :
    owns (c : Thread nD τ) (b.slice r hr) fullShare X
      ⊢ iprop((owns (c : Thread nD τ) (b.slice r hr) fullShare w -∗ runs c (k ⟨⟩) Q) -∗ runs c (.op (.store b r w Finset.univ hx hm) k) Q) := by
  unfold owns
  iintro ⟨%f, %hf, H⟩ Hk
  iapply (wp_store 𝒱₀ (c : Thread nD τ) none Set.univ (m := b) (r := r) (Mk := Finset.univ) (S := (b.access r).set) (f := f) (by rw [View.setOn_univ])) $$ H
  iintro H
  iapply Hk
  iexists _
  isplitr
  · ipureintro; exact View.read_write_univ (v := b.access r) f w
  iexact H

/-! ## The cells' invariants, common knowledge -/

/-- Every cell of every device under its invariant, and at round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

variable (K : Dev nD × CK → ℕ)

theorem inv_at (ck : Dev nD × CK) : records m ρ K ⊢ cellInv ER (rd m ρ) (K ck) (kcell ck) := by
  unfold records
  refine BIBase.Entails.trans ?_ (bigSep_elim (Finset.mem_univ ck) (Φ := fun ck => cellInv ER (rd m ρ) (K ck) (kcell ck)))
  iintro ⟨H, -⟩; iexact H
theorem reached_at (ck : Dev nD × CK) : records m ρ K ⊢ reached ER (kcell ck) 0 := by
  unfold records
  refine BIBase.Entails.trans ?_ (bigSep_elim (Finset.mem_univ ck) (Φ := fun ck => reached ER (kcell ck) 0))
  iintro ⟨-, H⟩; iexact H

theorem invBar_at (c : Dev nD) : records m ρ K ⊢ cellInv ER (rd m ρ) (K (c, none)) (barCell c) := inv_at m ρ K (c, none)
theorem invDma_at (k : Fin 4) (i : Fin 7) (c : Dev nD) : records m ρ K ⊢ cellInv ER (rd m ρ) (K (c, some (k, i))) (dCell k i c) :=
  inv_at m ρ K (c, some (k, i))
theorem reachedBar_at (c : Dev nD) : records m ρ K ⊢ reached ER (barCell c) 0 := reached_at m ρ K (c, none)
theorem reachedDma_at (k : Fin 4) (i : Fin 7) (c : Dev nD) : records m ρ K ⊢ reached ER (dCell k i c) 0 := reached_at m ρ K (c, some (k, i))

/-- Device `c` owes `O`, whatever it has waited for. -/
def owing (c : Dev nD) (O : CellTallies nD τ sig Unit) : sProp 𝕄 := iprop(∃ W, owes (c : Thread nD τ) O W)

/-! ## The signals -/

/-- Before the `k`-th signal: the barriers owed, and for each the token and the places it hands over. -/
def sigSt (c : Dev nD) (k : ℕ) : sProp 𝕄 :=
  iprop(owing c (owedDma 1 0 c + owedDma 3 0 c + owedBar k c)
    ∗ bigSep (todo k) fun i => iprop(dutyTok ER (barCell (fwd i c)) 0 i ∗ gift (rev i) c))

theorem signal_step (c : Dev nD) (i : Fin 7) (a b : ℕ) (ha : a = i.val) (hb : b = i.val + 1) (n : Dev nD) (hn : n.val = (fwd i c).val) {k : PUnit → Prog (TpuEff nD τ sig (Elt F) Λ₀ .tc) PUnit} :
    records m ρ K
      ⊢ iprop(sigSt c a -∗ (sigSt c b -∗ runs c (k ⟨⟩) Q) -∗ runs c (.op (.semSignal (n : Thread nD τ) barS 1) k) Q) := by
  subst ha hb
  obtain rfl : n = fwd i c := Fin.ext hn
  unfold sigSt owing
  rw [todo_peel]
  iintro #HR ⟨⟨%W, HO⟩, ⟨Ht, Hg⟩, Hrest⟩ Hk
  iapply (Rounds.wp_signal 𝒱₀ ER (rd m ρ) (c : Thread nD τ) none (dst := (fwd i c : Thread nD τ)) (κ := K (fwd i c, none))
      (d := i) (by rw [duties_bar]; exact Finset.mem_univ _) (amount_bar m ρ (fwd i c) i) ()
      (O₀ := owedDma 1 0 c + owedDma 3 0 c + owedBar i.val c) (owedDma 1 0 c + owedDma 3 0 c + owedBar (i.val + 1) c) (by rw [owedBar_peel, add_assoc _ _ (tallyAt _ _ _)])) $$ [HO Ht Hg]
  · isplitr; · iapply (invBar_at m ρ K (fwd i c)); iexact HR
    isplitl [HO]; · iexact HO
    isplitl [Ht]; · iexact Ht
    isplitl [Hg]
    · rw [payload_bar]; unfold barPay; rw [fwd_rev_fwd]; iexact Hg
    iapply (reachedBar_at m ρ K (fwd i c)); iexact HR
  iintro HO
  iapply Hk
  isplitl [HO]; · iexists W; iexact HO
  iexact Hrest

/-- The wait on the barrier, every signal sent: the places on the peers. -/
theorem barWait_step (c : Dev nD) {k : PUnit → Prog (TpuEff nD τ sig (Elt F) Λ₀ .tc) PUnit} :
    records m ρ K
      ⊢ iprop(levAts L lv -∗ sigSt c 7 -∗ cred (tallyAt (barCell c) () 7) -∗ atPos ER (barCell c) 0 ∅ 0
          -∗ (owing c (owedDma 1 0 c + owedDma 3 0 c) -∗ atPos ER (barCell c) 1 ∅ 0
              -∗ (bigSep Finset.univ fun i => iprop(∃ X, owns (fwd i c : Thread nD τ) (lFlat i) fullShare X))
              -∗ (bigSep Finset.univ fun i => iprop(∃ X, owns (fwd i c : Thread nD τ) (hPart i) fullShare X)) -∗ runs c (k ⟨⟩) Q)
          -∗ runs c (.op (.semWait barS 7) k) Q) := by
  unfold sigSt owing
  rw [owedBar_end, add_zero]
  iintro #HR #Hlev ⟨⟨%W, HO⟩, -⟩ Hc Hat Hk
  iapply (Rounds.wp_wait_rest_token 𝒱₀ ER (rd m ρ) (c : Thread nD τ) none (κ := K (c, none))
      (wpE_semWait_eq 𝒱₀ (c : Thread nD τ) none Set.univ) (Set.mem_univ _) () (O := owedDma 1 0 c + owedDma 3 0 c) (W := W) (R := 0) (m := 0) (T := ∅)
      (by rw [expect_bar])) $$ [Hc HO Hat]
  · isplitr; · iapply (invBar_at m ρ K c); iexact HR
    isplitl [Hc]; · iexact Hc
    isplitl [HO]; · iexact HO
    isplitr; · iapply (mayWait_bar c); iexact Hlev
    iexact Hat
  rw [rest_bar]; unfold gift; rw [bigSep_sep']
  iintro ⟨HO, Hat, -, Hl, Hh⟩
  iapply Hk $$ [HO] Hat Hl Hh
  iexists _; iexact HO

/-! ## The product's blocks -/

/-- Before the `k`-th block: the staged `w`, and the places of the blocks to be stored. -/
def blkSt (c : Dev nD) (k : ℕ) : sProp 𝕄 :=
  iprop(owns (c : Thread nD τ) wM fullShare (wstg m ρ c)
    ∗ bigSep (todo k) fun i => iprop(∃ X, owns (c : Thread nD τ) (yPart (fwd i c)) fullShare X))

/-- The load of `x`. -/
theorem load_x (c : Dev nD) {p : ∀ a, (![0, 0] : Fin 2 → Nat) a + S512x4096.size a ≤ S512x4096.size a}
    {hl : xM.view.LoadsAt (Rect.unit (s := S512x4096) ![0, 0] S512x4096.size p).toLoadRect}
    {k : Vec F S512x4096 .bf16 → Prog (TpuEff nD τ sig (Elt F) Λ₀ .tc) PUnit} :
    owns (c : Thread nD τ) xM fullShare (xstg m ρ c)
      ⊢ iprop((∀ v, ⌜k0_pay2 v = xval m ρ c⌝ -∗ owns (c : Thread nD τ) xM fullShare (xstg m ρ c) -∗ runs c (k v) Q)
          -∗ runs c (.op (.load xM (Rect.unit (s := S512x4096) ![0, 0] S512x4096.size p).toLoadRect hl) k) Q) := by
  rw [owns_whole]
  iintro H Hk
  iapply (wp_load 𝒱₀ (c : Thread nD τ) none Set.univ (m := xM) (Finset.subset_univ _)) $$ H
  iintro H
  iapply Hk $$ %(xM.view.readAt (Elt F) (Rect.unit (s := S512x4096) ![0, 0] S512x4096.size p).toLoadRect (xstg m ρ c)) %rfl
  iexact H

/-- A load of `w` at device `j`'s columns. -/
theorem load_w (c j : Dev nD) (o : Fin 2 → Nat) (ho : o = ![0, 256 * j.val]) {p : ∀ a, o a + S4096x256.size a ≤ S4096x2048.size a}
    {hl : wM.view.LoadsAt (Rect.unit (s := S4096x2048) o S4096x256.size p).toLoadRect}
    {k : Vec F S4096x256 .bf16 → Prog (TpuEff nD τ sig (Elt F) Λ₀ .tc) PUnit} :
    owns (c : Thread nD τ) wM fullShare (wstg m ρ c)
      ⊢ iprop((owns (c : Thread nD τ) wM fullShare (wstg m ρ c) -∗ runs c (k (wval m ρ c j)) Q)
          -∗ runs c (.op (.load wM (Rect.unit (s := S4096x2048) o S4096x256.size p).toLoadRect hl) k) Q) := by
  subst ho
  rw [owns_whole]
  iintro H Hk
  iapply (wp_load 𝒱₀ (c : Thread nD τ) none Set.univ (m := wM) (Finset.subset_univ _)) $$ H
  iexact Hk

theorem block_step (c : Dev nD) (i : Fin 7) (a b : ℕ) (ha : a = i.val) (hb : b = i.val + 1) (o o' : Fin 2 → Nat) (ho : o = ![0, 256 * (fwd i c).val]) (ho' : o' = ![0, 256 * (fwd i c).val])
    {p : ∀ a, o a + S4096x256.size a ≤ S4096x2048.size a} {p' p'' : ∀ a, o' a + S512x256.size a ≤ S512x2048.size a}
    {hl : wM.view.LoadsAt (Rect.unit (s := S4096x2048) o S4096x256.size p).toLoadRect}
    {hl' : yM.view.LoadsAt (Rect.unit (s := S512x2048) o' S512x256.size p').toLoadRect}
    {pay : Vec F S4096x256 .bf16 → FVec F S512x256 .bf16} (hp : pay = k0_pay5 (xval m ρ c))
    {hx : (yM.access (Rect.unit (s := S512x2048) o' S512x256.size p'')).Stores Finset.univ}
    {hm : (Finset.univ : Finset (Rect.unit (s := S512x2048) o' S512x256.size p'').shape.Idx) = Finset.univ ∨ ∀ a, (Rect.unit (s := S512x2048) o' S512x256.size p'').stride a = 1}
    {k : Vec F S4096x256 .bf16 → PUnit → Prog (TpuEff nD τ sig (Elt F) Λ₀ .tc) PUnit} :
    blkSt m ρ c a
      ⊢ iprop((blkSt m ρ c b -∗ owns (c : Thread nD τ) (yPart (fwd i c)) fullShare (yval m ρ c (fwd i c)) -∗ runs c (k (wval m ρ c (fwd i c)) ⟨⟩) Q)
          -∗ runs c (.op (.load wM (Rect.unit (s := S4096x2048) o S4096x256.size p).toLoadRect hl) fun v =>
                .op (.load yM (Rect.unit (s := S512x2048) o' S512x256.size p').toLoadRect hl') fun _ =>
                .op (.store yM (Rect.unit (s := S512x2048) o' S512x256.size p'') (pay v) Finset.univ hx hm) (k v)) Q) := by
  subst ha hb
  subst ho'; subst hp
  unfold blkSt
  rw [todo_peel]
  iintro ⟨Hw, ⟨%X, Hy⟩, Hrest⟩ Hk
  iapply (load_w m ρ c (fwd i c) o ho) $$ Hw
  iintro Hw
  iapply (load_part c yM (yCols (fwd i c)) (fun _ => rfl) X) $$ Hy
  iintro Hy
  iapply (store_part c yM (yCols (fwd i c)) (fun _ => rfl) X) $$ Hy
  iintro Hy
  iapply Hk $$ [Hw Hrest] [Hy]
  · isplitl [Hw] <;> iassumption
  iexact Hy

/-! ## The copies of the blocks -/

/-- Before the `k`-th block is sent: what is owed; for the blocks to be sent their slots and the tokens of the two
    cells each copy completes on; for those sent the credit to wait for the block's place. -/
def sendSt (c : Dev nD) (k : ℕ) : sProp 𝕄 :=
  iprop(owing c (owedDma 1 k c + owedDma 3 0 c)
    ∗ (bigSep (todo k) fun i => iprop((∃ X, owns (fwd i c : Thread nD τ) (lFlat i) fullShare X)
        ∗ dutyTok ER (dCell 0 i c) 0 0 ∗ dutyTok ER (dCell 1 i (fwd i c)) 0 0))
    ∗ bigSep (done k) fun i => cred (tallyAt (dCell 0 i c) () ND))

theorem credit_data : credit 0 = ND ∧ credit 1 = ND := ⟨rfl, rfl⟩
theorem credit_amax : credit 2 = NA ∧ credit 3 = NA := ⟨rfl, rfl⟩

theorem amount_lFlat (i : Fin 7) (s : DmaSem sig) : (lFlat i).view.amount (.dma s) = ND := rfl
theorem amount_hPart (i : Fin 7) (s : DmaSem sig) : (hPart i).view.amount (.dma s) = NA := rfl

theorem send_step (c : Dev nD) (i : Fin 7) (a b : ℕ) (ha : a = i.val) (hb : b = i.val + 1) (n : Dev nD) (hn : n.val = (fwd i c).val)
    (o : Fin 2 → Nat) (ho : o = ![0, 256 * (fwd i c).val]) {p : ∀ a, o a + S512x256.size a ≤ S512x2048.size a}
    (dst : Memref sig .tc .vmem S512x256 .bf16) (hd : dst = lFlat i)
    (sS sR : DmaSem sig) (hS : sS = dsem 0 i) (hR : sR = dsem 1 i)
    {hsc : (dst : Memref sig (Dev.tc n : Thread nD τ).2.kind .vmem S512x256 .bf16).view.ref.isScScratch = false}
    {hsrc : (yM.slice (Rect.unit (s := S512x2048) o S512x256.size p) (fun _ => rfl)).view.WordExact} {hdst : dst.view.WordExact}
    {hsem : DmaTarget.Typed .vmem (.dma sR) (.remote (Dev.tc n : Thread nD τ) (dst : Memref sig .tc .vmem S512x256 .bf16) (.dma sS) hsc)}
    {k : PUnit → Prog (TpuEff nD τ sig (Elt F) Λ₀ .tc) PUnit} :
    records m ρ K
      ⊢ iprop(sendSt c a -∗ owns (c : Thread nD τ) (yPart (fwd i c)) fullShare (yval m ρ c (fwd i c)) -∗ (sendSt c b -∗ runs c (k ⟨⟩) Q)
          -∗ runs c (.op (.enqueueDma (yM.slice (Rect.unit (s := S512x2048) o S512x256.size p) (fun _ => rfl))
                (.remote (Dev.tc n : Thread nD τ) dst (.dma sS) hsc) (.dma sR) hsrc hdst hsem) k) Q) := by
  subst ha hb
  obtain rfl : n = fwd i c := Fin.ext hn
  subst ho hd hS hR
  unfold sendSt owing
  rw [todo_peel, done_push]
  iintro #HR ⟨⟨%W, HO⟩, ⟨⟨⟨%X, Hl⟩, Ht, Ht'⟩, Hrest⟩, Hdone⟩ Hy Hk
  unfold owns
  icases Hl with ⟨%fd, -, Hl⟩
  icases Hy with ⟨%fs, %hfs, Hy⟩
  iapply (Rounds.wp_send_pointsTo 𝒱₀ ER (rd m ρ) (c : Thread nD τ) none (κ₁ := K (c, some (0, i))) (κ₂ := K (fwd i c, some (1, i)))
    (r₁ := 0) (r₂ := 0) (d₁ := 0) (d₂ := 0) (fd := fd) (fs := fs)
    (by rw [duties_dma]; exact Finset.mem_singleton_self _) (by rw [duties_dma]; exact Finset.mem_singleton_self _)
    () () ND (amount_lFlat i _) (amount_dma m ρ c 0 i 0) (amount_dma m ρ (fwd i c) 1 i 0) (O₀ := owedDma 1 i.val c + owedDma 3 0 c) (owedDma 1 (i.val + 1) c + owedDma 3 0 c)
    (by rw [owedDma_peel, credit_data.2, add_right_comm]) (W := W)
    (by rw [payload_dma]; unfold dmaPay; dsimp only; iintro H; iexists _; iapply (owns_intro (c : Thread nD τ) (yPart (fwd i c)) fullShare fs); iexact H)
    (by
      rw [payload_dma]; unfold dmaPay; dsimp only; rw [bwd_fwd, hfs]
      iintro H
      unfold owns; iexists _
      isplitr; · ipureintro; exact View.read_write_univ fd _
      iexact H)) $$ [Hy Hl HO Ht Ht']
  · isplitr; · iapply (invDma_at m ρ K 0 i c); iexact HR
    isplitr; · iapply (invDma_at m ρ K 1 i (fwd i c)); iexact HR
    isplitl [Hy]; · iexact Hy
    isplitl [Hl]; · iexact Hl
    isplitl [HO]; · iexact HO
    isplitl [Ht]; · iexact Ht
    isplitr; · iapply (reachedDma_at m ρ K 0 i c); iexact HR
    isplitl [Ht']; · iexact Ht'
    iapply (reachedDma_at m ρ K 1 i (fwd i c)); iexact HR
  iintro ⟨Hc, HO⟩
  iapply Hk
  isplitl [HO]; · iexists W; iexact HO
  isplitl [Hrest]; · iexact Hrest
  isplitl [Hc]; · iexact Hc
  iexact Hdone

/-! ## The copies of the rows of maxima -/

/-- Before the `k`-th row is sent: what is owed; for the rows to be sent their places, a share of the own row each,
    and the tokens; for those sent the credit to wait for the share. -/
def rowSt (c : Dev nD) (k : ℕ) : sProp 𝕄 :=
  iprop(owing c (owedDma 3 k c)
    ∗ (bigSep (todo k) fun i => iprop((∃ X, owns (fwd i c : Thread nD τ) (hPart i) fullShare X)
        ∗ owns (c : Thread nD τ) gM (Transfers.shareTok fullShare 7 i) (grow m ρ c)
        ∗ dutyTok ER (dCell 2 i c) 0 0 ∗ dutyTok ER (dCell 3 i (fwd i c)) 0 0))
    ∗ bigSep (done k) fun i => cred (tallyAt (dCell 2 i c) () NA))

theorem row_step (c : Dev nD) (i : Fin 7) (a b : ℕ) (ha : a = i.val) (hb : b = i.val + 1) (n : Dev nD) (hn : n.val = (fwd i c).val)
    (dst : Memref sig .tc .vmem S1x128 .f32) (hd : dst = hPart i)
    (sS sR : DmaSem sig) (hS : sS = dsem 2 i) (hR : sR = dsem 3 i)
    {hsc : (dst : Memref sig (Dev.tc n : Thread nD τ).2.kind .vmem S1x128 .f32).view.ref.isScScratch = false}
    {hsrc : gM.view.WordExact} {hdst : dst.view.WordExact}
    {hsem : DmaTarget.Typed .vmem (.dma sR) (.remote (Dev.tc n : Thread nD τ) (dst : Memref sig .tc .vmem S1x128 .f32) (.dma sS) hsc)}
    {k : PUnit → Prog (TpuEff nD τ sig (Elt F) Λ₀ .tc) PUnit} :
    records m ρ K
      ⊢ iprop(rowSt m ρ c a -∗ (rowSt m ρ c b -∗ runs c (k ⟨⟩) Q)
          -∗ runs c (.op (.enqueueDma gM (.remote (Dev.tc n : Thread nD τ) dst (.dma sS) hsc) (.dma sR) hsrc hdst hsem) k) Q) := by
  subst ha hb
  obtain rfl : n = fwd i c := Fin.ext hn
  subst hd hS hR
  unfold rowSt owing
  rw [todo_peel, done_push]
  iintro #HR ⟨⟨%W, HO⟩, ⟨⟨⟨%X, Hl⟩, Hg, Ht, Ht'⟩, Hrest⟩, Hdone⟩ Hk
  unfold owns
  icases Hl with ⟨%fd, -, Hl⟩
  icases Hg with ⟨%fs, %hfs, Hg⟩
  iapply (Rounds.wp_send_pointsTo 𝒱₀ ER (rd m ρ) (c : Thread nD τ) none (κ₁ := K (c, some (2, i))) (κ₂ := K (fwd i c, some (3, i)))
    (r₁ := 0) (r₂ := 0) (d₁ := 0) (d₂ := 0) (fd := fd) (fs := fs)
    (by rw [duties_dma]; exact Finset.mem_singleton_self _) (by rw [duties_dma]; exact Finset.mem_singleton_self _)
    () () NA (amount_hPart i _) (amount_dma m ρ c 2 i 0) (amount_dma m ρ (fwd i c) 3 i 0) (O₀ := owedDma 3 i.val c) (owedDma 3 (i.val + 1) c)
    (by rw [owedDma_peel, credit_amax.2]) (W := W)
    (by
      rw [payload_dma]; unfold dmaPay; dsimp only; iintro H
      unfold owns; iexists fs
      isplitr; · ipureintro; exact hfs
      iexact H)
    (by
      rw [payload_dma]; unfold dmaPay; dsimp only; rw [bwd_fwd, hfs]
      iintro H
      unfold owns; iexists _
      isplitr; · ipureintro; exact View.read_write_univ fd _
      iexact H)) $$ [Hg Hl HO Ht Ht']
  · isplitr; · iapply (invDma_at m ρ K 2 i c); iexact HR
    isplitr; · iapply (invDma_at m ρ K 3 i (fwd i c)); iexact HR
    isplitl [Hg]; · iexact Hg
    isplitl [Hl]; · iexact Hl
    isplitl [HO]; · iexact HO
    isplitl [Ht]; · iexact Ht
    isplitr; · iapply (reachedDma_at m ρ K 2 i c); iexact HR
    isplitl [Ht']; · iexact Ht'
    iapply (reachedDma_at m ρ K 3 i (fwd i c)); iexact HR
  iintro ⟨Hc, HO⟩
  iapply Hk
  isplitl [HO]; · iexists W; iexact HO
  isplitl [Hrest]; · iexact Hrest
  isplitl [Hc]; · iexact Hc
  iexact Hdone

/-! ## The waits -/

/-- A wait on one of the device's own copies' cells, owing nothing: what the cell hands over. -/
theorem wait_step (c : Dev nD) (a : Fin 4) (i : Fin 7) (s : DmaSem sig) (hs : s = dsem a i) {sp sp' : Space} {sh sh' : Shape} {e e' : EltTy}
    (src : Memref sig .tc sp' sh' e') (dst : Memref sig .tc sp sh e) {h₁ : src.view.WordExact} {h₂ : dst.view.WordExact}
    (hc : dst.view.dmaCredit = credit a)
    {k : PUnit → Prog (TpuEff nD τ sig (Elt F) Λ₀ .tc) PUnit} :
    records m ρ K
      ⊢ iprop(owing c 0 -∗ cred (tallyAt (dCell a i c) () (credit a)) -∗ atPos ER (dCell a i c) 0 ∅ 0 -∗ (iprop(owing c 0 ∗ atPos ER (dCell a i c) 1 ∅ 0 ∗ dmaPay m ρ a i c) -∗ runs c (k ⟨⟩) Q)
          -∗ runs c (.op (.waitDma2 s src dst h₁ h₂) k) Q) := by
  subst hs
  unfold owing
  rw [← hc]
  iintro #HR ⟨%W, HO⟩ Hc Hat Hk
  iapply (Rounds.wp_wait_rest_token 𝒱₀ ER (rd m ρ) (c : Thread nD τ) none (κ := K (c, some (a, i))) (sm := .dma (dsem a i)) (k' := dst.view.dmaCredit)
    (wpE_waitDma2_eq 𝒱₀ (c : Thread nD τ) none Set.univ) (Set.mem_univ _) () (O := 0) (W := W) (R := 0) (m := 0) (T := ∅)
    (by rw [Nat.zero_add, hc]; exact (expect_dma m ρ c a i).symm)) $$ [HO Hc Hat]
  · isplitr; · iapply (invDma_at m ρ K a i c); iexact HR
    isplitl [Hc]; · iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  rw [← rest_dma m ρ c a i]
  iexact Hp

/-- Before the `k`-th pair of waits for the rows: for the rows to wait for the credit and the position on both cells;
    for those waited for what the cells handed over. -/
def rowWaitSt (c : Dev nD) (k : ℕ) : sProp 𝕄 :=
  iprop(owing c 0
    ∗ (bigSep (todo k) fun i => iprop((cred (tallyAt (dCell 2 i c) () (credit 2)) ∗ atPos ER (dCell 2 i c) 0 ∅ 0)
        ∗ (cred (tallyAt (dCell 3 i c) () (credit 3)) ∗ atPos ER (dCell 3 i c) 0 ∅ 0)))
    ∗ bigSep (done k) fun i => iprop((atPos ER (dCell 2 i c) 1 ∅ 0 ∗ dmaPay m ρ 2 i c)
        ∗ (atPos ER (dCell 3 i c) 1 ∅ 0 ∗ dmaPay m ρ 3 i c)))

theorem rowWait_step (c : Dev nD) (i : Fin 7) (a b : ℕ) (ha : a = i.val) (hb : b = i.val + 1) (sS sR : DmaSem sig) (hS : sS = dsem 2 i) (hR : sR = dsem 3 i)
    (d : Memref sig .tc .vmem S1x128 .f32) (hd : d = hPart i) {h₁ h₄ : d.view.WordExact} {h₂ h₃ : gM.view.WordExact}
    {k : PUnit → PUnit → Prog (TpuEff nD τ sig (Elt F) Λ₀ .tc) PUnit} :
    records m ρ K
      ⊢ iprop(rowWaitSt m ρ c a -∗ (rowWaitSt m ρ c b -∗ runs c (k ⟨⟩ ⟨⟩) Q)
          -∗ runs c (.op (.waitDma2 sS d gM h₁ h₂) fun u => .op (.waitDma2 sR gM d h₃ h₄) (k u)) Q) := by
  subst ha hb
  subst hd
  unfold rowWaitSt
  rw [todo_peel, done_push]
  iintro #HR ⟨HO, ⟨⟨⟨Hc, Ha⟩, ⟨Hc', Ha'⟩⟩, Hrest⟩, Hdone⟩ Hk
  iapply (wait_step m ρ K c 2 i sS hS (hPart i) gM credit_amax.1.symm) $$ HR HO Hc Ha
  iintro ⟨HO, Ha, Hp⟩
  iapply (wait_step m ρ K c 3 i sR hR gM (hPart i) credit_amax.2.symm) $$ HR HO Hc' Ha'
  iintro ⟨HO, Ha', Hp'⟩
  iapply Hk
  isplitl [HO]; · iexact HO
  isplitl [Hrest]; · iexact Hrest
  isplitl [Ha Hp Ha' Hp']
  · isplitl [Ha Hp]
    · isplitl [Ha] <;> iassumption
    isplitl [Ha'] <;> iassumption
  iexact Hdone

/-! ## The result's blocks -/

/-- A load of a landing slot reads, flattened, what the slot is owned at. -/
theorem load_slot (c : Dev nD) (i : Fin 7) (o : Fin 3 → Nat) (ho : o = ![i.val, 0, 0]) {p : ∀ a, o a + S1x512x256.size a ≤ S7x512x256.size a} {q : PosShare TreeShare}
    {hl : lM.view.LoadsAt (Rect.unit (s := S7x512x256) o S1x512x256.size p).toLoadRect}
    {k : Vec F S1x512x256 .bf16 → Prog (TpuEff nD τ sig (Elt F) Λ₀ .tc) PUnit} (X : S512x256.Idx → Elt F .bf16) :
    owns (c : Thread nD τ) (lFlat i) q X
      ⊢ iprop((∀ v, ⌜shapeCast S512x256 v shapeCasts_S1x512x256_S512x256 = X⌝ -∗ owns (c : Thread nD τ) (lFlat i) q X -∗ runs c (k v) Q)
          -∗ runs c (.op (.load lM (Rect.unit (s := S7x512x256) o S1x512x256.size p).toLoadRect hl) k) Q) := by
  subst ho
  unfold owns
  iintro ⟨%f, %hf, H⟩ Hk
  iapply (wp_load_rect 𝒱₀ (c : Thread nD τ) none Set.univ (m := lM) (r := lSlot i) (S := (lFlat i).view.set) (f := f) (q := q)
    (by rw [show (lFlat i).view.set = (lPart i).view.set from View.set_reshape _ _])) $$ H
  iintro H
  iapply Hk $$ %((lM.access (lSlot i)).read (Elt F) f) %hf
  iexists f
  isplitr; · ipureintro; exact hf
  iexact H

/-- Before the `k`-th landed block is turned into its part of the result: for the blocks to come the credit and the
    position on the two cells of the copy, and the part's place; for those done what the cells handed over and the
    part. -/
def outSt (c : Dev nD) (k : ℕ) : sProp 𝕄 :=
  iprop(owing c 0
    ∗ (bigSep (todo k) fun i => iprop((cred (tallyAt (dCell 0 i c) () (credit 0)) ∗ atPos ER (dCell 0 i c) 0 ∅ 0)
        ∗ (cred (tallyAt (dCell 1 i c) () (credit 1)) ∗ atPos ER (dCell 1 i c) 0 ∅ 0)
        ∗ ∃ X, owns (c : Thread nD τ) (oPart (bwd i c)) fullShare X))
    ∗ bigSep (done k) fun i => iprop((atPos ER (dCell 0 i c) 1 ∅ 0 ∗ dmaPay m ρ 0 i c)
        ∗ (atPos ER (dCell 1 i c) 1 ∅ 0 ∗ dmaPay m ρ 1 i c)
        ∗ owns (c : Thread nD τ) (oPart (bwd i c)) fullShare (oval m ρ c (bwd i c))))

theorem dmaPay_zero (i : Fin 7) (c : Dev nD) :
    dmaPay m ρ 0 i c = iprop(∃ X, owns (c : Thread nD τ) (yPart (fwd i c)) fullShare X) := rfl
theorem dmaPay_one (i : Fin 7) (c : Dev nD) : dmaPay m ρ 1 i c = owns (c : Thread nD τ) (lFlat i) fullShare (yval m ρ (bwd i c) c) := rfl
theorem dmaPay_two (i : Fin 7) (c : Dev nD) :
    dmaPay m ρ 2 i c = owns (c : Thread nD τ) gM (Transfers.shareTok fullShare 7 i) (grow m ρ c) := rfl
theorem dmaPay_three (i : Fin 7) (c : Dev nD) : dmaPay m ρ 3 i c = owns (c : Thread nD τ) (hPart i) fullShare (grow m ρ (bwd i c)) := rfl

theorem bwd_ne (i : Fin 7) (c : Dev nD) : bwd i c ≠ c := by revert i c; decide

/-- Between a landed block's load and the store of its part: what `outSt` holds, with the block's own two cells
    waited for and the part still to be stored. -/
def halfSt (c : Dev nD) (i : Fin 7) : sProp 𝕄 :=
  iprop(owing c 0
    ∗ (bigSep (todo (i.val + 1)) fun i => iprop((cred (tallyAt (dCell 0 i c) () (credit 0)) ∗ atPos ER (dCell 0 i c) 0 ∅ 0)
        ∗ (cred (tallyAt (dCell 1 i c) () (credit 1)) ∗ atPos ER (dCell 1 i c) 0 ∅ 0)
        ∗ ∃ X, owns (c : Thread nD τ) (oPart (bwd i c)) fullShare X))
    ∗ (bigSep (done i.val) fun i => iprop((atPos ER (dCell 0 i c) 1 ∅ 0 ∗ dmaPay m ρ 0 i c)
        ∗ (atPos ER (dCell 1 i c) 1 ∅ 0 ∗ dmaPay m ρ 1 i c)
        ∗ owns (c : Thread nD τ) (oPart (bwd i c)) fullShare (oval m ρ c (bwd i c))))
    ∗ (atPos ER (dCell 0 i c) 1 ∅ 0 ∗ dmaPay m ρ 0 i c) ∗ (atPos ER (dCell 1 i c) 1 ∅ 0 ∗ dmaPay m ρ 1 i c)
    ∗ ∃ X, owns (c : Thread nD τ) (oPart (bwd i c)) fullShare X)

/-- The waits for the block at distance `i`, sent and landed, and its load. -/
theorem landed_step (c : Dev nD) (i : Fin 7) (a : ℕ) (ha : a = i.val) (sS sR : DmaSem sig) (hS : sS = dsem 0 i) (hR : sR = dsem 1 i)
    (d : Memref sig .tc .vmem S512x256 .bf16) (hd : d = lFlat i) {oy : Fin 2 → Nat} {py : ∀ a, oy a + S512x256.size a ≤ S512x2048.size a}
    {h₁ h₄ : d.view.WordExact} {h₂ h₃ : (yM.slice (Rect.unit (s := S512x2048) oy S512x256.size py) (fun _ => rfl)).view.WordExact}
    (ol : Fin 3 → Nat) (hol : ol = ![i.val, 0, 0]) {pl : ∀ a, ol a + S1x512x256.size a ≤ S7x512x256.size a}
    {hl : lM.view.LoadsAt (Rect.unit (s := S7x512x256) ol S1x512x256.size pl).toLoadRect}
    {k : Vec F S1x512x256 .bf16 → Prog (TpuEff nD τ sig (Elt F) Λ₀ .tc) PUnit} :
    records m ρ K
      ⊢ iprop(outSt m ρ c a
          -∗ (∀ v, ⌜shapeCast S512x256 v shapeCasts_S1x512x256_S512x256 = yval m ρ (bwd i c) c⌝ -∗ halfSt m ρ c i -∗ runs c (k v) Q)
          -∗ runs c (.op (.waitDma2 sS d (yM.slice (Rect.unit (s := S512x2048) oy S512x256.size py) (fun _ => rfl)) h₁ h₂) fun _ =>
                .op (.waitDma2 sR (yM.slice (Rect.unit (s := S512x2048) oy S512x256.size py) (fun _ => rfl)) d h₃ h₄) fun _ =>
                .op (.load lM (Rect.unit (s := S7x512x256) ol S1x512x256.size pl).toLoadRect hl) k) Q) := by
  subst ha
  subst hd
  unfold outSt halfSt
  rw [todo_peel]
  iintro #HR ⟨HO, ⟨⟨⟨Hc, Ha⟩, ⟨Hc', Ha'⟩, Ho⟩, Hrest⟩, Hdone⟩ Hk
  iapply (wait_step m ρ K c 0 i sS hS (lFlat i) (yM.slice (Rect.unit (s := S512x2048) oy S512x256.size py) (fun _ => rfl)) credit_data.1.symm) $$ HR HO Hc Ha
  iintro ⟨HO, Ha, Hp⟩
  iapply (wait_step m ρ K c 1 i sR hR (yM.slice (Rect.unit (s := S512x2048) oy S512x256.size py) (fun _ => rfl)) (lFlat i)
    credit_data.2.symm) $$ HR HO Hc' Ha'
  iintro ⟨HO, Ha', Hp'⟩
  iapply (load_slot c i ol hol (yval m ρ (bwd i c) c) (q := fullShare)) $$ [Hp']
  · rw [← dmaPay_one]; iexact Hp'
  iintro %v %hv Hp'
  iapply Hk $$ %v %hv
  isplitl [HO]; · iexact HO
  isplitl [Hrest]; · iexact Hrest
  isplitl [Hdone]; · iexact Hdone
  isplitl [Ha Hp]
  · isplitl [Ha] <;> iassumption
  isplitl [Ha' Hp']
  · isplitl [Ha']; · iexact Ha'
    rw [dmaPay_one]; iexact Hp'
  iexact Ho

/-- A block's part of the result, stored where device `j`'s rows are. -/
theorem part_step (c j : Dev nD) (oo : Fin 2 → Nat) (hoo : oo = ![512 * j.val, 0]) {po po' : ∀ a, oo a + S512x256.size a ≤ S4096x256.size a}
    {hl' : oM.view.LoadsAt (Rect.unit (s := S4096x256) oo S512x256.size po).toLoadRect}
    {w : FVec F S512x256 .bf16} (hw : w = oval m ρ c j)
    {hx : (oM.access (Rect.unit (s := S4096x256) oo S512x256.size po')).Stores Finset.univ}
    {hm : (Finset.univ : Finset (Rect.unit (s := S4096x256) oo S512x256.size po').shape.Idx) = Finset.univ ∨ ∀ a, (Rect.unit (s := S4096x256) oo S512x256.size po').stride a = 1}
    {k : PUnit → Prog (TpuEff nD τ sig (Elt F) Λ₀ .tc) PUnit} (X : S512x256.Idx → Elt F .bf16) :
    owns (c : Thread nD τ) (oPart j) fullShare X
      ⊢ iprop((owns (c : Thread nD τ) (oPart j) fullShare (oval m ρ c j) -∗ runs c (k ⟨⟩) Q)
          -∗ runs c (.op (.load oM (Rect.unit (s := S4096x256) oo S512x256.size po).toLoadRect hl') fun _ =>
                .op (.store oM (Rect.unit (s := S4096x256) oo S512x256.size po') w Finset.univ hx hm) k) Q) := by
  subst hoo; subst hw
  iintro Ho Hk
  iapply (load_part c oM (oRows j) (fun _ => rfl) X) $$ Ho
  iintro Ho
  iapply (store_part c oM (oRows j) (fun _ => rfl) X) $$ Ho
  iexact Hk

/-- The part of the result that the block landed from distance `i` becomes. -/
theorem out_step (c : Dev nD) (i : Fin 7) (b : ℕ) (hb : b = i.val + 1)
    (oo : Fin 2 → Nat) (hoo : oo = ![512 * (bwd i c).val, 0]) {po po' : ∀ a, oo a + S512x256.size a ≤ S4096x256.size a}
    {hl' : oM.view.LoadsAt (Rect.unit (s := S4096x256) oo S512x256.size po).toLoadRect}
    {w : FVec F S512x256 .bf16} (hw : w = k0_pay1 (scale m ρ c) (inv m ρ c) (yval m ρ (bwd i c) c))
    {hx : (oM.access (Rect.unit (s := S4096x256) oo S512x256.size po')).Stores Finset.univ}
    {hm : (Finset.univ : Finset (Rect.unit (s := S4096x256) oo S512x256.size po').shape.Idx) = Finset.univ ∨ ∀ a, (Rect.unit (s := S4096x256) oo S512x256.size po').stride a = 1}
    {k : PUnit → Prog (TpuEff nD τ sig (Elt F) Λ₀ .tc) PUnit} :
    halfSt m ρ c i
      ⊢ iprop((outSt m ρ c b -∗ runs c (k ⟨⟩) Q)
          -∗ runs c (.op (.load oM (Rect.unit (s := S4096x256) oo S512x256.size po).toLoadRect hl') fun _ =>
                .op (.store oM (Rect.unit (s := S4096x256) oo S512x256.size po') w Finset.univ hx hm) k) Q) := by
  subst hb
  unfold outSt halfSt
  rw [done_push]
  iintro ⟨HO, Hrest, Hdone, H0, H1, ⟨%X, Ho⟩⟩ Hk
  iapply (part_step m ρ c (bwd i c) oo hoo (hw.trans (if_neg (bwd_ne i c)).symm) X) $$ Ho
  iintro Ho
  iapply Hk
  isplitl [HO]; · iexact HO
  isplitl [Hrest]; · iexact Hrest
  isplitl [H0 H1 Ho]
  · isplitl [H0]; · iexact H0
    isplitl [H1] <;> iassumption
  iexact Hdone

/-! ## The row of the device's own maximum -/

theorem zeroes2 : (![0, 0] : Fin 2 → Nat) = fun _ => 0 := by funext a; fin_cases a <;> rfl

theorem grow_step (c : Dev nD) {p p' : ∀ a, (![0, 0] : Fin 2 → Nat) a + S1x128.size a ≤ S1x128.size a}
    {hl : gM.view.LoadsAt (Rect.unit (s := S1x128) ![0, 0] S1x128.size p).toLoadRect}
    {w : FVec F S1x128 .f32} (hw : w = grow m ρ c)
    {hx : (gM.access (Rect.unit (s := S1x128) ![0, 0] S1x128.size p')).Stores Finset.univ}
    {hm : (Finset.univ : Finset (Rect.unit (s := S1x128) ![0, 0] S1x128.size p').shape.Idx) = Finset.univ ∨ ∀ a, (Rect.unit (s := S1x128) ![0, 0] S1x128.size p').stride a = 1}
    {k : PUnit → Prog (TpuEff nD τ sig (Elt F) Λ₀ .tc) PUnit} (X : S1x128.Idx → Elt F .f32) :
    owns (c : Thread nD τ) gM fullShare X
      ⊢ iprop((owns (c : Thread nD τ) gM fullShare (grow m ρ c) -∗ runs c (k ⟨⟩) Q)
          -∗ runs c (.op (.load gM (Rect.unit (s := S1x128) ![0, 0] S1x128.size p).toLoadRect hl) fun _ =>
                .op (.store gM (Rect.unit (s := S1x128) ![0, 0] S1x128.size p') w Finset.univ hx hm) k) Q) := by
  subst hw
  rw [owns_whole, owns_whole]
  iintro H Hk
  iapply (wp_load 𝒱₀ (c : Thread nD τ) none Set.univ (m := gM) (Finset.subset_univ _)) $$ H
  iintro H
  iapply (wp_store 𝒱₀ (c : Thread nD τ) none Set.univ (m := gM) (r := Rect.unit (s := S1x128) ![0, 0] S1x128.size p') (Mk := Finset.univ) (S := Finset.univ) (f := X) (Finset.subset_univ _)) $$ H
  rw [show (gM.access (Rect.unit (s := S1x128) ![0, 0] S1x128.size p')).write (Elt F) X (grow m ρ c) Finset.univ = grow m ρ c from
    Memref.write_access_unit_zero_univ (Elt F) cc0_scratch2 zeroes2 _ X (grow m ρ c)]
  iexact Hk

/-- The row in shares: one kept, one for each copy. -/
theorem share_row (c : Dev nD) (X : S1x128.Idx → Elt F .f32) : (owns (c : Thread nD τ) gM fullShare X : sProp 𝕄)
    ⊢ iprop(owns (c : Thread nD τ) gM (Transfers.shareDrop fullShare 7) X
        ∗ bigSep Finset.univ fun i : Fin 7 => owns (c : Thread nD τ) gM (Transfers.shareTok fullShare 7 i) X) := by
  simp only [owns_whole]
  exact Transfers.pointsTo_toks_split fullShare 7
theorem unshare_row (c : Dev nD) (X : S1x128.Idx → Elt F .f32) : (iprop(owns (c : Thread nD τ) gM (Transfers.shareDrop fullShare 7) X
        ∗ bigSep Finset.univ fun i : Fin 7 => owns (c : Thread nD τ) gM (Transfers.shareTok fullShare 7 i) X) : sProp 𝕄)
    ⊢ owns (c : Thread nD τ) gM fullShare X := by
  simp only [owns_whole]
  exact Transfers.pointsTo_toks_join fullShare 7

/-- The load of the rows received. -/
theorem load_h (c : Dev nD) {p : ∀ a, (![0, 0] : Fin 2 → Nat) a + S7x128.size a ≤ S7x128.size a}
    {hl : hM.view.LoadsAt (Rect.unit (s := S7x128) ![0, 0] S7x128.size p).toLoadRect}
    {k : Vec F S7x128 .f32 → Prog (TpuEff nD τ sig (Elt F) Λ₀ .tc) PUnit} (X : S7x128.Idx → Elt F .f32) :
    owns (c : Thread nD τ) hM fullShare X
      ⊢ iprop((owns (c : Thread nD τ) hM fullShare X -∗ runs c (k X) Q)
          -∗ runs c (.op (.load hM (Rect.unit (s := S7x128) ![0, 0] S7x128.size p).toLoadRect hl) k) Q) := by
  rw [owns_whole]
  iintro H Hk
  iapply (wp_load 𝒱₀ (c : Thread nD τ) none Set.univ (m := hM) (Finset.subset_univ _)) $$ H
  rw [show hM.view.readAt (Elt F) (Rect.unit (s := S7x128) ![0, 0] S7x128.size p).toLoadRect X = X from
    Memref.readAt_unit_zero (Elt F) cc0_scratch3 zeroes2 _ X]
  iexact Hk

/-! ## The cells closed -/

omit [FloatOps F] in
/-- A family over a device's cells: the barrier's member, and the copies' cells' by kind. -/
theorem bigSep_cells (Φ : CK → sProp 𝕄) :
    bigSep Finset.univ Φ = iprop(Φ none ∗ (bigSep Finset.univ fun i => Φ (some (0, i))) ∗ (bigSep Finset.univ fun i => Φ (some (1, i)))
      ∗ (bigSep Finset.univ fun i => Φ (some (2, i))) ∗ bigSep Finset.univ fun i => Φ (some (3, i))) := by
  rw [show (Finset.univ : Finset CK) = insert none (Finset.univ.map ⟨some, Option.some_injective _⟩) from by decide, bigSep_insert (by decide),
    bigSep_map, bigSep_univ_prod, bigSep_univ_eq_bigSepL [0, 1, 2, 3] (by decide) (by decide)]
  rfl

/-- A device past the one round of each of its cells closes them, every counter at zero. -/
theorem close_cells (c : Dev nD) :
    records m ρ K
      ⊢ iprop(atPos ER (barCell c) 1 ∅ 0 -∗ (bigSep Finset.univ fun i => atPos ER (dCell 0 i c) 1 ∅ 0) -∗ (bigSep Finset.univ fun i => atPos ER (dCell 1 i c) 1 ∅ 0)
          -∗ (bigSep Finset.univ fun i => atPos ER (dCell 2 i c) 1 ∅ 0) -∗ (bigSep Finset.univ fun i => atPos ER (dCell 3 i c) 1 ∅ 0)
          -∗ |={Set.univ}=> bigSep Finset.univ fun x : CK => semVal (kcell (c, x)) 0) := by
  iintro #HR HB H0 H1 H2 H3
  iapply (Rounds.cells_close ER (rd m ρ) Finset.univ (fun x : CK => kcell (c, x)) (fun x => K (c, x)) (fun _ _ => Set.mem_univ _) (fun _ _ h => h)
    (fun _ => 1) (fun x _ r hr => duties_later m ρ _ r hr))
  rw [bigSep_sep']
  isplitr
  · iapply (bigSep_intro_persistent (R := records m ρ K) fun x _ => inv_at m ρ K (c, x)); iexact HR
  rw [bigSep_cells]
  isplitl [HB]; · iexact HB
  isplitl [H0]; · iexact H0
  isplitl [H1]; · iexact H1
  isplitl [H2]; · iexact H2
  iexact H3

end Cert.KernelIdeal.Exchange

end
-- ==== Proof.Ideal.Parts.lean ====
/-
  The kernel's buffers by parts: the product by the devices whose columns they are, the result by the devices whose
  rows they are, the landing buffer by its slots and the received maxima by their rows. Each family of parts covers
  its buffer without overlap, so a buffer owned whole is owned part by part, and back.
-/
module

public import proofs.«01_k».proof.Proof.Ideal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families of parts -/

section Family

variable {T : Type} [Fintype T] [DecidableEq T] {s : Shape} (r : T → Rect s) (hr : ∀ t a, (r t).stride a = 1)

/-- Every index lies in exactly one part. -/
def Parted : Prop := ∃ w : s.Idx → T, ∀ x t, x ∈ (r t).set ↔ w x = t

variable {r}

theorem Parted.disjoint (h : Parted r) (t t' : T) (ht : t ≠ t') : Disjoint (r t).set (r t').set := by
  obtain ⟨w, hw⟩ := h
  exact Finset.disjoint_left.mpr fun x hx hx' => ht (((hw x t).mp hx).symm.trans ((hw x t').mp hx'))

theorem Parted.cover (h : Parted r) : (Finset.univ : Finset T).biUnion (fun t => (r t).set) = Finset.univ := by
  obtain ⟨w, hw⟩ := h
  exact Finset.eq_univ_iff_forall.mpr fun x => Finset.mem_biUnion.mpr ⟨w x, Finset.mem_univ _, (hw x _).mpr rfl⟩

/-- Contents given part by part are the parts of one buffer's contents. -/
theorem Parted.glue (h : Parted r) {α : Type} (Y : ∀ t, (r t).shape.Idx → α) : ∃ X : s.Idx → α, ∀ t j, X ((r t).emb j) = Y t j := by
  obtain ⟨w, hw⟩ := h
  have hex : ∀ x, ∃ j, (r (w x)).emb j = x := fun x => by
    have hx : x ∈ (r (w x)).set := (hw x _).mpr rfl
    rw [← Rect.map_emb_univ, Finset.mem_map] at hx
    obtain ⟨j, -, hj⟩ := hx
    exact ⟨j, hj⟩
  refine ⟨fun x => Y (w x) (hex x).choose, fun t j => ?_⟩
  have hj : (r t).emb j ∈ (r t).set := by rw [← Rect.map_emb_univ]; exact Finset.mem_map_of_mem _ (Finset.mem_univ j)
  have hwt : w ((r t).emb j) = t := (hw _ t).mp hj
  have key : ∀ t' (h' : ∃ j', (r t').emb j' = (r t).emb j), t' = t → Y t' h'.choose = Y t j := by
    rintro t' h' rfl
    exact congrArg (Y t') ((r t').emb.injective h'.choose_spec)
  exact key _ (hex _) hwt

variable {e : EltTy} (b : Memref sig .tc .vmem s e)

omit [FloatOps F] in
/-- A buffer owned whole at some contents is owned part by part. -/
theorem Parted.split (h : Parted r) (c : Dev nD) :
    (iprop(∃ X, owns (c : Thread nD τ) b fullShare X) : sProp 𝕄)
      ⊢ bigSep Finset.univ fun t => iprop(∃ X, owns (c : Thread nD τ) (b.slice (r t) (hr t)) fullShare X) := by
  iintro ⟨%X, H⟩
  iapply ((owns_rects (c : Thread nD τ) b fullShare r hr h.disjoint h.cover X).trans (bigSep_mono fun t _ =>
    show (owns (c : Thread nD τ) (b.slice (r t) (hr t)) fullShare (fun j => X ((r t).emb j)) : sProp 𝕄)
      ⊢ iprop(∃ X, owns (c : Thread nD τ) (b.slice (r t) (hr t)) fullShare X) by iintro H; iexists _; iexact H))
  iexact H

/-- Owned part by part at the parts of `X`, a buffer is owned whole at `X`. -/
theorem Parted.join (h : Parted r) (c : Dev nD) (X : s.Idx → Elt F e) (Y : ∀ t, (r t).shape.Idx → Elt F e) (hY : ∀ t j, X ((r t).emb j) = Y t j) :
    (bigSep Finset.univ fun t => owns (c : Thread nD τ) (b.slice (r t) (hr t)) fullShare (Y t) : sProp 𝕄)
      ⊢ owns (c : Thread nD τ) b fullShare X := by
  rw [bigSep_congr fun t _ => by rw [← show (fun j => X ((r t).emb j)) = Y t from funext (hY t)]]
  exact owns_of_rects (c : Thread nD τ) b fullShare r hr h.disjoint h.cover X

/-- Owned part by part at some contents, a buffer is owned whole at some contents. -/
theorem Parted.join_any (h : Parted r) (c : Dev nD) :
    (bigSep Finset.univ fun t => iprop(∃ X, owns (c : Thread nD τ) (b.slice (r t) (hr t)) fullShare X) : sProp 𝕄)
      ⊢ iprop(∃ X, owns (c : Thread nD τ) b fullShare X) := by
  refine BIBase.Entails.trans (BI.bigSep_exists_pi Finset.univ fun t (X : (r t).shape.Idx → Elt F e) => owns (c : Thread nD τ) (b.slice (r t) (hr t)) fullShare X) ?_
  iintro ⟨%Y, H⟩
  obtain ⟨X, hX⟩ := h.glue Y
  iexists X
  iapply (h.join hr b c X Y hX)
  iexact H

end Family

/-! ## The four families -/

theorem parted_y : Parted yCols := by
  refine ⟨fun x => ⟨(x 1).val / 256, by have : (x 1).val < 2048 := (x 1).isLt; show _ < 8; omega⟩, fun x t => ?_⟩
  have h0 : (x 0).val < 512 := (x 0).isLt
  rw [Rect.mem_set_unit, Fin.ext_iff]
  refine ⟨fun h => ?_, fun h => Fin.forall_fin_two.mpr ⟨⟨Nat.zero_le _, by show (x 0).val < 0 + 512; omega⟩, ?_⟩⟩
  · have h1 : 256 * t.val ≤ (x 1).val ∧ (x 1).val < 256 * t.val + 256 := h 1
    show (x 1).val / 256 = t.val; omega
  · have h' : (x 1).val / 256 = t.val := h
    show 256 * t.val ≤ (x 1).val ∧ (x 1).val < 256 * t.val + 256; omega

theorem parted_o : Parted oRows := by
  refine ⟨fun x => ⟨(x 0).val / 512, by have : (x 0).val < 4096 := (x 0).isLt; show _ < 8; omega⟩, fun x t => ?_⟩
  have h1 : (x 1).val < 256 := (x 1).isLt
  rw [Rect.mem_set_unit, Fin.ext_iff]
  refine ⟨fun h => ?_, fun h => Fin.forall_fin_two.mpr ⟨?_, ⟨Nat.zero_le _, by show (x 1).val < 0 + 256; omega⟩⟩⟩
  · have h0 : 512 * t.val ≤ (x 0).val ∧ (x 0).val < 512 * t.val + 512 := h 0
    show (x 0).val / 512 = t.val; omega
  · have h' : (x 0).val / 512 = t.val := h
    show 512 * t.val ≤ (x 0).val ∧ (x 0).val < 512 * t.val + 512; omega

theorem parted_h : Parted hRow := by
  refine ⟨fun x => ⟨(x 0).val, (x 0).isLt⟩, fun x t => ?_⟩
  have h1 : (x 1).val < 128 := (x 1).isLt
  rw [Rect.mem_set_unit, Fin.ext_iff]
  refine ⟨fun h => ?_, fun h => Fin.forall_fin_two.mpr ⟨?_, ⟨Nat.zero_le _, by show (x 1).val < 0 + 128; omega⟩⟩⟩
  · have h0 : t.val ≤ (x 0).val ∧ (x 0).val < t.val + 1 := h 0
    show (x 0).val = t.val; omega
  · have h' : (x 0).val = t.val := h
    show t.val ≤ (x 0).val ∧ (x 0).val < t.val + 1; omega

theorem parted_l : Parted lSlot := by
  refine ⟨fun x => ⟨(x 0).val, (x 0).isLt⟩, fun x t => ?_⟩
  have h1 : (x 1).val < 512 := (x 1).isLt
  have h2 : (x 2).val < 256 := (x 2).isLt
  rw [Rect.mem_set_unit, Fin.ext_iff]
  refine ⟨fun h => ?_, fun h a => ?_⟩
  · have h0 : t.val ≤ (x 0).val ∧ (x 0).val < t.val + 1 := h 0
    show (x 0).val = t.val; omega
  · have h' : (x 0).val = t.val := h
    match a with
    | 0 => show t.val ≤ (x 0).val ∧ (x 0).val < t.val + 1; omega
    | 1 => exact ⟨Nat.zero_le _, by show (x 1).val < 0 + 512; omega⟩
    | 2 => exact ⟨Nat.zero_le _, by show (x 2).val < 0 + 256; omega⟩

omit [FloatOps F] in
/-- A landing slot, flattened or not, is the same elements. -/
theorem slot_flat (c : Dev nD) (i : Fin 7) :
    (iprop(∃ X, owns (c : Thread nD τ) (lPart i) fullShare X) : sProp 𝕄) ⊢ iprop(∃ X, owns (c : Thread nD τ) (lFlat i) fullShare X) := by
  unfold owns
  iintro ⟨%X, %f, -, H⟩
  iexists _, f
  isplitr; · ipureintro; rfl
  rw [show (lFlat i).view.set = (lPart i).view.set from View.set_reshape _ _]
  iexact H
omit [FloatOps F] in
theorem flat_slot (c : Dev nD) (i : Fin 7) :
    (iprop(∃ X, owns (c : Thread nD τ) (lFlat i) fullShare X) : sProp 𝕄) ⊢ iprop(∃ X, owns (c : Thread nD τ) (lPart i) fullShare X) := by
  unfold owns
  iintro ⟨%X, %f, -, H⟩
  rw [show (lFlat i).view.set = (lPart i).view.set from View.set_reshape _ _]
  iexists _, f
  isplitr; · ipureintro; rfl
  iexact H

/-! ## The buffers, split and joined -/

section Buffers

variable (c : Dev nD)

/-- The product buffer by the devices the blocks go to, the device's own block apart. -/
theorem split_y : (iprop(∃ X, owns (c : Thread nD τ) yM fullShare X) : sProp 𝕄)
    ⊢ iprop((∃ X, owns (c : Thread nD τ) (yPart c) fullShare X) ∗ bigSep Finset.univ fun i => iprop(∃ X, owns (c : Thread nD τ) (yPart (fwd i c)) fullShare X)) := by
  rw [← bigSep_fwd c fun j => iprop(∃ X, owns (c : Thread nD τ) (yPart j) fullShare X)]
  exact parted_y.split (fun _ _ => rfl) yM c
theorem join_y : (iprop((∃ X, owns (c : Thread nD τ) (yPart c) fullShare X) ∗ bigSep Finset.univ fun i => iprop(∃ X, owns (c : Thread nD τ) (yPart (fwd i c)) fullShare X)) : sProp 𝕄)
    ⊢ iprop(∃ X, owns (c : Thread nD τ) yM fullShare X) := by
  rw [← bigSep_fwd c fun j => iprop(∃ X, owns (c : Thread nD τ) (yPart j) fullShare X)]
  exact parted_y.join_any (fun _ _ => rfl) yM c

/-- The landing buffer and the received rows, as the places handed to the peers. -/
theorem split_gifts : (iprop((∃ X, owns (c : Thread nD τ) lM fullShare X) ∗ (∃ X, owns (c : Thread nD τ) hM fullShare X)) : sProp 𝕄)
    ⊢ bigSep Finset.univ fun i => gift (rev i) c := by
  rw [show (bigSep Finset.univ fun i => gift (F := F) (rev i) c) = bigSep Finset.univ fun i => gift i c from
    (bigSep_univ_equiv revEquiv (Φ := fun i => gift (F := F) i c)).symm]
  unfold gift
  rw [bigSep_sep']
  exact BI.sep_mono ((parted_l.split (fun _ _ => rfl) lM c).trans (bigSep_mono fun i _ => slot_flat c i)) (parted_h.split (fun _ _ => rfl) hM c)
theorem join_l : (bigSep Finset.univ fun i => iprop(∃ X, owns (c : Thread nD τ) (lFlat i) fullShare X) : sProp 𝕄)
    ⊢ iprop(∃ X, owns (c : Thread nD τ) lM fullShare X) :=
  (bigSep_mono fun i _ => flat_slot c i).trans (parted_l.join_any (fun _ _ => rfl) lM c)

/-- The result's buffer by the devices its rows come from, the device's own rows apart. -/
theorem split_o : (iprop(∃ X, owns (c : Thread nD τ) oM fullShare X) : sProp 𝕄)
    ⊢ iprop((∃ X, owns (c : Thread nD τ) (oPart c) fullShare X) ∗ bigSep Finset.univ fun i => iprop(∃ X, owns (c : Thread nD τ) (oPart (bwd i c)) fullShare X)) := by
  rw [← bigSep_bwd c fun j => iprop(∃ X, owns (c : Thread nD τ) (oPart j) fullShare X)]
  exact parted_o.split (fun _ _ => rfl) oM c

variable (m : (ℓ : Loc nD τ sig) → Buf (Elt F) ℓ) (ρ : Dev nD → PrngReg)

/-- The result on device `c`: in the rows of device `j` the block that comes from `j`. -/
def outAt : (cc0_stg2_0 : Ref sig .tc).ty.Contents (Elt F) := fun x =>
  oval m ρ c ⟨(x 0).val / 512, by have : (x 0).val < 4096 := (x 0).isLt; show _ < 8; omega⟩ fun a => match a with
    | ⟨0, _⟩ => (⟨(x 0).val % 512, Nat.mod_lt _ (by decide)⟩ : Fin 512)
    | ⟨1, _⟩ => (⟨(x 1).val, (x 1).isLt⟩ : Fin 256)

theorem outAt_rows (j : Dev nD) (x : (oRows j).shape.Idx) : outAt c m ρ ((oRows j).emb x) = oval m ρ c j x := by
  have h0 : (((oRows j).emb x) 0).val = 512 * j.val + (x 0).val := by
    show 512 * j.val + 1 * (x 0).val = _; omega
  have h1 : (((oRows j).emb x) 1).val = (x 1).val := by
    show 0 + 1 * (x 1).val = _; omega
  have hx0 : (x 0).val < 512 := (x 0).isLt
  unfold outAt
  congr 1
  · exact Fin.ext (by show _ / 512 = _; rw [h0]; omega)
  · funext a
    match a with
    | ⟨0, _⟩ => exact Fin.ext (by show (((oRows j).emb x) 0).val % 512 = (x 0).val; rw [h0]; omega)
    | ⟨1, _⟩ => exact Fin.ext h1

theorem join_o : (iprop(owns (c : Thread nD τ) (oPart c) fullShare (oval m ρ c c) ∗ bigSep Finset.univ fun i => owns (c : Thread nD τ) (oPart (bwd i c)) fullShare (oval m ρ c (bwd i c))) : sProp 𝕄)
    ⊢ owns (c : Thread nD τ) oM fullShare (outAt c m ρ) := by
  rw [← bigSep_bwd c fun j => owns (c : Thread nD τ) (oPart j) fullShare (oval m ρ c j)]
  exact parted_o.join (fun _ _ => rfl) oM c _ _ (outAt_rows c m ρ)

theorem hval_row (i : Fin 7) (x : (hRow i).shape.Idx) : hval m ρ c ((hRow i).emb x) = grow m ρ (bwd i c) x := by
  have h0 : ((hRow i).emb x) 0 = i := Fin.ext (by
    have : (x 0).val < 1 := (x 0).isLt
    show i.val + 1 * (x 0).val = _; omega)
  have h1 : (((hRow i).emb x) 1).val = (x 1).val := by
    show 0 + 1 * (x 1).val = _; omega
  unfold hval
  rw [h0]
  congr 1
  funext a
  match a with
  | ⟨0, _⟩ => exact Fin.ext (by have : (x 0).val < 1 := (x 0).isLt; show 0 = (x 0).val; omega)
  | ⟨1, _⟩ => exact Fin.ext h1

theorem join_h : (bigSep Finset.univ fun i => owns (c : Thread nD τ) (hPart i) fullShare (grow m ρ (bwd i c)) : sProp 𝕄)
    ⊢ owns (c : Thread nD τ) hM fullShare (hval m ρ c) :=
  parted_h.join (fun _ _ => rfl) hM c _ _ (hval_row c m ρ)

end Buffers

end Cert.KernelIdeal.Exchange

end
-- ==== Proof.Ideal.Body.lean ====
/-
  What the pipeline runs on each device, and the body's proof: the kernel executed once at a symbolic device, effect
  by effect, from what the launch hands it to its buffers full, its cells closed and the result's buffer at its value.
-/
module

public import proofs.«01_k».proof.Proof.Ideal.Steps
public import proofs.«01_k».proof.Proof.Ideal.Parts
public import proofs.«01_k».proof.Proof.Gen.KernelIdeal.Points

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends in -/

section States

variable (K : Dev nD × CK → ℕ) (c : Dev nD)

/-- What device `c` pays with at distance `i`: the duties of its signal and of its two copies' four cells. -/
def payToks (i : Fin 7) : sProp 𝕄 :=
  iprop(dutyTok ER (barCell (fwd i c)) 0 i
    ∗ (dutyTok ER (dCell 0 i c) 0 0 ∗ dutyTok ER (dCell 1 i (fwd i c)) 0 0)
    ∗ (dutyTok ER (dCell 2 i c) 0 0 ∗ dutyTok ER (dCell 3 i (fwd i c)) 0 0))

/-- Its positions, at round `r`, on its own four cells of distance `i`. -/
def posAt (r : ℕ) (i : Fin 7) : sProp 𝕄 :=
  iprop((atPos ER (dCell 0 i c) r ∅ 0 ∗ atPos ER (dCell 1 i c) r ∅ 0) ∗ (atPos ER (dCell 2 i c) r ∅ 0 ∗ atPos ER (dCell 3 i c) r ∅ 0))

/-- The exchange's ghost state device `c` starts from. -/
def ghost : sProp 𝕄 :=
  iprop(records m ρ K ∗ atPos ER (barCell c) 0 ∅ 0 ∗ (bigSep Finset.univ fun i => posAt c 0 i) ∗ bigSep Finset.univ fun i => payToks c i)

/-- The credit it waits with for what its peers send it. -/
def inCred : sProp 𝕄 :=
  iprop(cred (tallyAt (barCell c) () 7)
    ∗ bigSep Finset.univ fun i => iprop(cred (tallyAt (dCell 1 i c) () (credit 1)) ∗ cred (tallyAt (dCell 3 i c) () (credit 3))))

def start : sProp 𝕄 := iprop((∃ K, ghost m ρ K c) ∗ inCred c ∗ levAts L lv)

/-- The four scratch buffers, at some contents. -/
def scratch : sProp 𝕄 :=
  iprop((∃ X, owns (c : Thread nD τ) yM fullShare X) ∗ (∃ X, owns (c : Thread nD τ) lM fullShare X)
    ∗ (∃ X, owns (c : Thread nD τ) gM fullShare X) ∗ (∃ X, owns (c : Thread nD τ) hM fullShare X))

/-- The counters of the exchange's cells at zero. -/
def zeros : sProp 𝕄 := bigSep Finset.univ fun x : CK => semVal (kcell (c, x)) 0

def Φ₀ : sProp 𝕄 := iprop(start m ρ c ∗ scratch c)
def Φ₁ : sProp 𝕄 := iprop(scratch c ∗ zeros c)

end States

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt c m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

section Body

variable (K : Dev nD × CK → ℕ)

def bodyPre (c : Dev nD) : sProp 𝕄 :=
  iprop((ghost m ρ K c ∗ inCred c ∗ levAts L lv ∗ scratch c)
    ∗ (dats m ρ 0 c).owesAt () t0_0.castSucc
    ∗ owns (c : Thread nD τ) xM fullShare (xstg m ρ c)
    ∗ owns (c : Thread nD τ) wM fullShare (wstg m ρ c)
    ∗ ∃ X, owns (c : Thread nD τ) oM fullShare X)

def bodyPost (c : Dev nD) : sProp 𝕄 :=
  iprop(Φ₁ c ∗ (dats m ρ 0 c).owesAt () t0_0.succ
    ∗ owns (c : Thread nD τ) xM fullShare (xstg m ρ c)
    ∗ owns (c : Thread nD τ) wM fullShare (wstg m ρ c)
    ∗ owns (c : Thread nD τ) oM fullShare (outAt c m ρ))

/-- The landing buffer whole again, whatever its slots hold. -/
theorem landed_join (c : Dev nD) :
    (bigSep Finset.univ fun i => owns (c : Thread nD τ) (lFlat i) fullShare (yval m ρ (bwd i c) c) : sProp 𝕄)
      ⊢ iprop(∃ X, owns (c : Thread nD τ) lM fullShare X) :=
  have h (i : Fin 7) : (owns (c : Thread nD τ) (lFlat i) fullShare (yval m ρ (bwd i c) c) : sProp 𝕄)
      ⊢ iprop(∃ X, owns (c : Thread nD τ) (lFlat i) fullShare X) := by iintro H; iexists _; iexact H
  (bigSep_mono fun i _ => h i).trans (join_l c)

set_option sl_open_parts.maxParts 40 in
set_option maxHeartbeats 400000 in
set_option maxRecDepth 20000 in
/-- The body at a symbolic device. -/
theorem sound_body (c : Dev nD) (Kt : PUnit.{1} → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) wM (Memref.isWhole_whole _) oM (Memref.isWhole_whole _) yM (Memref.isWhole_whole _) lM (Memref.isWhole_whole _)
            gM (Memref.isWhole_whole _) hM (Memref.isWhole_whole _) cc0_scratch4 cc0_scratch5 cc0_scratch6 cc0_scratch7) Kt := by
  sl_unfold [cc0_body]
  sl_open_parts
  simp only [semSignalWord, semWaitWord, Prog.lift, Prog.bind_op, Prog.bind_ret, Prog.pure_eq_ret, wp_deviceId]
  unfold bodyPre ghost inCred scratch
  iintro ⟨⟨⟨⟨#HR, HatB, Hpos, Htoks⟩, ⟨HcB, HcIn⟩, #Hlev, ⟨Hy, Hl, Hg, Hh⟩⟩, HO, Hx, Hw, Ho⟩, Hk⟩
  -- the buffers in parts
  ihave Hys := (split_y c) $$ Hy
  icases Hys with ⟨Hyc, Hys⟩
  ihave Hgifts := (split_gifts c) $$ [Hl Hh]
  · isplitl [Hl] <;> iassumption
  ihave Hos := (split_o c) $$ Ho
  icases Hos with ⟨⟨%Xo, Hoc⟩, Hos⟩
  icases Hg with ⟨%Xg, Hg⟩
  -- the tokens by what they pay for, the positions and the credit by when they are used
  unfold payToks posAt
  simp only [bigSep_sep']
  icases Htoks with ⟨HtB, ⟨Ht0, Ht1⟩, ⟨Ht2, Ht3⟩⟩
  icases Hpos with ⟨⟨Hp0, Hp1⟩, ⟨Hp2, Hp3⟩⟩
  icases HcIn with ⟨Hc1, Hc3⟩
  unfold Dat.owesAt Pipeline.owesWithin
  icases HO with ⟨%W, %hW, HO⟩
  rw [show (dats m ρ 0 c).owed t0_0.castSucc = O₀ c from rfl]
  obtain ⟨e1, e2, e3, e4, e5, e6, e7⟩ := signal_devs c
  obtain ⟨f1, f2, f3, f4, f5, f6, f7⟩ := data_devs c
  obtain ⟨g1, g2, g3, g4, g5, g6, g7⟩ := amax_devs c
  -- the signals
  ihave HS : sigSt c 0 $$ [HO HtB Hgifts]
  · unfold sigSt owing O₀
    rw [todo_zero, bigSep_sep']
    isplitl [HO]; · iexists W; iexact HO
    isplitl [HtB] <;> iassumption
  iapply (signal_step m ρ K c 0 0 1 rfl rfl _ e1) $$ HR HS; iintro HS
  iapply (signal_step m ρ K c 1 1 2 rfl rfl _ e2) $$ HR HS; iintro HS
  iapply (signal_step m ρ K c 2 2 3 rfl rfl _ e3) $$ HR HS; iintro HS
  iapply (signal_step m ρ K c 3 3 4 rfl rfl _ e4) $$ HR HS; iintro HS
  iapply (signal_step m ρ K c 4 4 5 rfl rfl _ e5) $$ HR HS; iintro HS
  iapply (signal_step m ρ K c 5 5 6 rfl rfl _ e6) $$ HR HS; iintro HS
  iapply (signal_step m ρ K c 6 6 7 rfl rfl _ e7) $$ HR HS; iintro HS
  -- the load of `x`
  iapply (load_x m ρ c) $$ Hx; iintro %xv %hxv Hx
  rw [hxv]
  -- the first block, and the wait on the barrier
  ihave HB : blkSt m ρ c 0 $$ [Hw Hys]
  · unfold blkSt
    rw [todo_zero]
    isplitl [Hw] <;> iassumption
  iapply (block_step m ρ c 0 0 1 rfl rfl _ _ (wcols_at c 0) (ycols_at c 0) (pay := k0_pay5 (xval m ρ c)) rfl) $$ HB; iintro HB Hy
  iapply (barWait_step m ρ K c) $$ HR Hlev HS HcB HatB; iintro HO HatB Hpl Hph
  -- the blocks, each sent and the next computed
  ihave HD : sendSt c 0 $$ [HO Hpl Ht0 Ht1]
  · unfold sendSt
    rw [todo_zero, done_zero, bigSep_empty, bigSep_sep', bigSep_sep']
    isplitl [HO]; · iexact HO
    isplitl
    · isplitl [Hpl]; · iexact Hpl
      isplitl [Ht0] <;> iassumption
    iempintro
  iapply (send_step m ρ K c 0 0 1 rfl rfl _ f1 _ (ysent_at c 0) _ rfl _ _ rfl rfl) $$ HR HD Hy; iintro HD
  iapply (block_step m ρ c 1 1 2 rfl rfl _ _ (wcols_at c 1) (ycols_at c 1) (pay := k0_pay8 (xval m ρ c)) rfl) $$ HB; iintro HB Hy
  iapply (send_step m ρ K c 1 1 2 rfl rfl _ f2 _ (ysent_at c 1) _ rfl _ _ rfl rfl) $$ HR HD Hy; iintro HD
  iapply (block_step m ρ c 2 2 3 rfl rfl _ _ (wcols_at c 2) (ycols_at c 2) (pay := k0_pay11 (xval m ρ c)) rfl) $$ HB; iintro HB Hy
  iapply (send_step m ρ K c 2 2 3 rfl rfl _ f3 _ (ysent_at c 2) _ rfl _ _ rfl rfl) $$ HR HD Hy; iintro HD
  iapply (block_step m ρ c 3 3 4 rfl rfl _ _ (wcols_at c 3) (ycols_at c 3) (pay := k0_pay14 (xval m ρ c)) rfl) $$ HB; iintro HB Hy
  iapply (send_step m ρ K c 3 3 4 rfl rfl _ f4 _ (ysent_at c 3) _ rfl _ _ rfl rfl) $$ HR HD Hy; iintro HD
  iapply (block_step m ρ c 4 4 5 rfl rfl _ _ (wcols_at c 4) (ycols_at c 4) (pay := k0_pay17 (xval m ρ c)) rfl) $$ HB; iintro HB Hy
  iapply (send_step m ρ K c 4 4 5 rfl rfl _ f5 _ (ysent_at c 4) _ rfl _ _ rfl rfl) $$ HR HD Hy; iintro HD
  iapply (block_step m ρ c 5 5 6 rfl rfl _ _ (wcols_at c 5) (ycols_at c 5) (pay := k0_pay20 (xval m ρ c)) rfl) $$ HB; iintro HB Hy
  iapply (send_step m ρ K c 5 5 6 rfl rfl _ f6 _ (ysent_at c 5) _ rfl _ _ rfl rfl) $$ HR HD Hy; iintro HD
  iapply (block_step m ρ c 6 6 7 rfl rfl _ _ (wcols_at c 6) (ycols_at c 6) (pay := k0_pay23 (xval m ρ c)) rfl) $$ HB; iintro HB Hy
  iapply (send_step m ρ K c 6 6 7 rfl rfl _ f7 _ (ysent_at c 6) _ rfl _ _ rfl rfl) $$ HR HD Hy; iintro HD
  -- the device's own block and the row of its greatest magnitude
  unfold blkSt
  rw [todo_end, bigSep_empty]
  icases HB with ⟨Hw, -⟩
  iapply (load_w m ρ c c _ (wcols_own c)) $$ Hw; iintro Hw
  iapply (grow_step m ρ c rfl Xg) $$ Hg; iintro Hg
  -- the row sent to every peer
  ihave Hg' := (share_row c (grow m ρ c)) $$ Hg
  icases Hg' with ⟨Hgk, Hgs⟩
  unfold sendSt
  rw [todo_end, bigSep_empty, done_end, owedDma_end, zero_add]
  icases HD with ⟨HO, -, Hc0⟩
  ihave HR2 : rowSt m ρ c 0 $$ [HO Hph Hgs Ht2 Ht3]
  · unfold rowSt
    rw [todo_zero, done_zero, bigSep_empty, bigSep_sep', bigSep_sep', bigSep_sep']
    isplitl [HO]; · iexact HO
    isplitl
    · isplitl [Hph]; · iexact Hph
      isplitl [Hgs]; · iexact Hgs
      isplitl [Ht2] <;> iassumption
    iempintro
  iapply (row_step m ρ K c 0 0 1 rfl rfl _ g1 _ rfl _ _ rfl rfl) $$ HR HR2; iintro HR2
  iapply (row_step m ρ K c 1 1 2 rfl rfl _ g2 _ rfl _ _ rfl rfl) $$ HR HR2; iintro HR2
  iapply (row_step m ρ K c 2 2 3 rfl rfl _ g3 _ rfl _ _ rfl rfl) $$ HR HR2; iintro HR2
  iapply (row_step m ρ K c 3 3 4 rfl rfl _ g4 _ rfl _ _ rfl rfl) $$ HR HR2; iintro HR2
  iapply (row_step m ρ K c 4 4 5 rfl rfl _ g5 _ rfl _ _ rfl rfl) $$ HR HR2; iintro HR2
  iapply (row_step m ρ K c 5 5 6 rfl rfl _ g6 _ rfl _ _ rfl rfl) $$ HR HR2; iintro HR2
  iapply (row_step m ρ K c 6 6 7 rfl rfl _ g7 _ rfl _ _ rfl rfl) $$ HR HR2; iintro HR2
  -- the waits for the rows
  unfold rowSt
  rw [todo_end, bigSep_empty, done_end, owedDma_end]
  icases HR2 with ⟨HO, -, Hc2⟩
  ihave HV : rowWaitSt m ρ c 0 $$ [HO Hc2 Hc3 Hp2 Hp3]
  · unfold rowWaitSt
    rw [todo_zero, done_zero, bigSep_empty, bigSep_sep', bigSep_sep', bigSep_sep', credit_amax.1]
    isplitl [HO]; · iexact HO
    isplitl
    · isplitl [Hc2 Hp2]
      · isplitl [Hc2] <;> iassumption
      isplitl [Hc3] <;> iassumption
    iempintro
  iapply (rowWait_step m ρ K c 0 0 1 rfl rfl _ _ rfl rfl _ rfl) $$ HR HV; iintro HV
  iapply (rowWait_step m ρ K c 1 1 2 rfl rfl _ _ rfl rfl _ rfl) $$ HR HV; iintro HV
  iapply (rowWait_step m ρ K c 2 2 3 rfl rfl _ _ rfl rfl _ rfl) $$ HR HV; iintro HV
  iapply (rowWait_step m ρ K c 3 3 4 rfl rfl _ _ rfl rfl _ rfl) $$ HR HV; iintro HV
  iapply (rowWait_step m ρ K c 4 4 5 rfl rfl _ _ rfl rfl _ rfl) $$ HR HV; iintro HV
  iapply (rowWait_step m ρ K c 5 5 6 rfl rfl _ _ rfl rfl _ rfl) $$ HR HV; iintro HV
  iapply (rowWait_step m ρ K c 6 6 7 rfl rfl _ _ rfl rfl _ rfl) $$ HR HV; iintro HV
  unfold rowWaitSt
  simp only [todo_end, bigSep_empty, done_end, bigSep_sep', dmaPay_two, dmaPay_three]
  icases HV with ⟨HO, -, ⟨Hp2, Hgs⟩, ⟨Hp3, Hhs⟩⟩
  ihave Hh := (join_h c m ρ) $$ Hhs
  ihave Hg := (unshare_row c (grow m ρ c)) $$ [Hgk Hgs]
  · isplitl [Hgk] <;> iassumption
  -- the rows read, and the own part of the result
  iapply (load_h c (hval m ρ c)) $$ Hh; iintro Hh
  rw [show k0_pay25 (xval m ρ c) (k0_pay4 (xval m ρ c) (wval m ρ c (fwd 0 c))) (k0_pay7 (xval m ρ c) (wval m ρ c (fwd 1 c)))
      (k0_pay10 (xval m ρ c) (wval m ρ c (fwd 2 c))) (k0_pay13 (xval m ρ c) (wval m ρ c (fwd 3 c))) (k0_pay16 (xval m ρ c) (wval m ρ c (fwd 4 c)))
      (k0_pay19 (xval m ρ c) (wval m ρ c (fwd 5 c))) (k0_pay22 (xval m ρ c) (wval m ρ c (fwd 6 c))) (wval m ρ c c) = lmax m ρ c from rfl,
    show k0_pay28 (lmax m ρ c) (hval m ρ c) = scale m ρ c from rfl, show k0_pay29 (lmax m ρ c) (hval m ρ c) = inv m ρ c from rfl]
  iapply (part_step m ρ c c _ (orows_own c) (if_pos rfl).symm Xo) $$ Hoc; iintro Hoc
  -- the landed blocks, each turned into its part of the result
  ihave HU : outSt m ρ c 0 $$ [HO Hc0 Hc1 Hp0 Hp1 Hos]
  · unfold outSt
    rw [todo_zero, done_zero, bigSep_empty, bigSep_sep', bigSep_sep', bigSep_sep', bigSep_sep', credit_data.1]
    isplitl [HO]; · iexact HO
    isplitl
    · isplitl [Hc0 Hp0]
      · isplitl [Hc0] <;> iassumption
      isplitl [Hc1 Hp1]
      · isplitl [Hc1] <;> iassumption
      iexact Hos
    iempintro
  iapply (landed_step m ρ K c 0 0 rfl _ _ rfl rfl _ rfl _ rfl) $$ HR HU; iintro %v0 %hv0 HU
  iapply (out_step m ρ c 0 1 rfl _ (orows_at c 0) (congrArg (k0_pay1 _ _) hv0)) $$ HU; iintro HU
  iapply (landed_step m ρ K c 1 1 rfl _ _ rfl rfl _ rfl _ rfl) $$ HR HU; iintro %v1 %hv1 HU
  iapply (out_step m ρ c 1 2 rfl _ (orows_at c 1) (congrArg (k0_pay1 _ _) hv1)) $$ HU; iintro HU
  iapply (landed_step m ρ K c 2 2 rfl _ _ rfl rfl _ rfl _ rfl) $$ HR HU; iintro %v2 %hv2 HU
  iapply (out_step m ρ c 2 3 rfl _ (orows_at c 2) (congrArg (k0_pay1 _ _) hv2)) $$ HU; iintro HU
  iapply (landed_step m ρ K c 3 3 rfl _ _ rfl rfl _ rfl _ rfl) $$ HR HU; iintro %v3 %hv3 HU
  iapply (out_step m ρ c 3 4 rfl _ (orows_at c 3) (congrArg (k0_pay1 _ _) hv3)) $$ HU; iintro HU
  iapply (landed_step m ρ K c 4 4 rfl _ _ rfl rfl _ rfl _ rfl) $$ HR HU; iintro %v4 %hv4 HU
  iapply (out_step m ρ c 4 5 rfl _ (orows_at c 4) (congrArg (k0_pay1 _ _) hv4)) $$ HU; iintro HU
  iapply (landed_step m ρ K c 5 5 rfl _ _ rfl rfl _ rfl _ rfl) $$ HR HU; iintro %v5 %hv5 HU
  iapply (out_step m ρ c 5 6 rfl _ (orows_at c 5) (congrArg (k0_pay1 _ _) hv5)) $$ HU; iintro HU
  iapply (landed_step m ρ K c 6 6 rfl _ _ rfl rfl _ rfl _ rfl) $$ HR HU; iintro %v6 %hv6 HU
  iapply (out_step m ρ c 6 7 rfl _ (orows_at c 6) (congrArg (k0_pay1 _ _) hv6)) $$ HU; iintro HU
  unfold outSt
  simp only [todo_end, bigSep_empty, done_end, bigSep_sep', dmaPay_zero, dmaPay_one]
  icases HU with ⟨HO, -, ⟨Hp0, Hys⟩, ⟨Hp1, Hls⟩, Hos⟩
  -- the cells closed and the buffers joined
  imod (close_cells m ρ K c) $$ HR HatB Hp0 Hp1 Hp2 Hp3 with Hz
  ihave Ho := (join_o c m ρ) $$ [Hoc Hos]
  · isplitl [Hoc] <;> iassumption
  ihave Hy := (join_y c) $$ [Hyc Hys]
  · isplitl [Hyc] <;> iassumption
  ihave Hl := (landed_join m ρ c) $$ Hls
  rw [wp_ret]
  imodintro
  iapply Hk
  unfold bodyPost Φ₁ scratch zeros Dat.owesAt Pipeline.owesWithin owing
  rw [show (dats m ρ 0 c).owed t0_0.succ = 0 from rfl]
  isplitl [Hy Hl Hg Hh Hz]
  · isplitl [Hy Hl Hg Hh]
    · isplitl [Hy]; · iexact Hy
      isplitl [Hl]; · iexact Hl
      isplitl [Hg]; · iexists _; iexact Hg
      iexists _; iexact Hh
    iexact Hz
  isplitl [HO]
  · icases HO with ⟨%W', HO⟩
    iexists W'
    isplitr; · ipureintro; exact fun _ _ => Or.inl trivial
    iexact HO
  isplitl [Hx]; · iexact Hx
  isplitl [Hw]; · iexact Hw
  iexact Ho

def bodyPre' (c : Dev nD) : sProp 𝕄 :=
  iprop(Φ₀ m ρ c ∗ (dats m ρ 0 c).owesAt () t0_0.castSucc
    ∗ (∃ d, owns (c : Thread nD τ) xM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))

/-- The pipeline's one step runs the body. -/
theorem body_obligation (c : Dev nD) : BodyObligation (dats (F := F) m ρ 0 c) (defs₀ (F := F)) 𝒱₀ () Set.univ := fun t => by
  rw [fin_N0 t, bigSep_W0, bigSep_W0]
  show bodyPre' m ρ c ⊢ wp frame (wpE (defs₀ (F := F)) 𝒱₀ (c : Thread nD τ) none) Set.univ
    (cc0_body xM (Memref.isWhole_whole _) wM (Memref.isWhole_whole _) oM (Memref.isWhole_whole _) yM (Memref.isWhole_whole _)
      lM (Memref.isWhole_whole _) gM (Memref.isWhole_whole _) hM (Memref.isWhole_whole _) cc0_scratch4 cc0_scratch5 cc0_scratch6 cc0_scratch7)
    (fun _ => bodyPost m ρ c)
  have h0 : ∀ d, (dats m ρ 0 c).before (0 : Fin 3) t0_0 d = xstg m ρ c := fun d => if_pos (fetch0_0 t0_0)
  have h1 : ∀ d, (dats m ρ 0 c).before (1 : Fin 3) t0_0 d = wstg m ρ c := fun d => if_pos (fetch0_1 t0_0)
  unfold bodyPre' Φ₀ start
  simp only [h0, h1]
  iintro ⟨⟨⟨⟨%K, Hg⟩, Hc, Hlev⟩, Hscr⟩, HO, ⟨%d0, Hx⟩, ⟨%d1, Hw⟩, ⟨%d2, Ho⟩⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [HO]; · iexact HO
    isplitl [Hx]; · iexact Hx
    isplitl [Hw]; · iexact Hw
    iexists _; iexact Ho
  · iintro H; iexact H

end Body

end Cert.KernelIdeal.Exchange

end
-- ==== Proof.Ideal.Launch.lean ====
/-
  The launch on the mesh: the exchange's ghost state made and dealt out, each device's credit counted, and the run of
  `@main` on every device, whose result arrays end at the value the body's proof computes.
-/
module

public import proofs.«01_k».proof.Proof.Ideal.Body
public import Idealize.ShloMosaic.Lib.Pipeline.CollectiveSegs
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- The kernel's own 28 semaphores: those of the copies, by copy end and distance. -/
def osem (x : Fin 4 × Fin 7) : SemLoc sig := csem (some x)

theorem ownSemFacts : Pipeline.OwnSemFacts cfg0.spec osem := by decide +kernel

theorem share_eq (c : Dev nD) (w : Fin cfg0.W) : (dats m ρ 0 c).share w = fullShare := by unfold Dat.share; split <;> rfl

def exCells : Finset (GSem nD τ sig) := Finset.univ.map ⟨kcell, kcell_injective⟩

/-- A device's duties by name: `(none, i)` is its barrier's of distance `i`, `(some k, i)` its cell `(k, i)`'s one. -/
abbrev tokOf (x : Dev nD × (Option (Fin 4) × Fin 7)) : GSem nD τ sig × ℕ × Fin 7 :=
  match x.2.1 with
  | none => (barCell x.1, 0, x.2.2)
  | some k => (dCell k x.2.2 x.1, 0, 0)

theorem tokOf_injective : Function.Injective tokOf := by
  rintro ⟨c, k, i⟩ ⟨c', k', i'⟩ h
  obtain rfl : c = c' := by
    have := congrArg (fun x : GSem nD τ sig × ℕ × Fin 7 => x.1.1.1) h
    cases k <;> cases k' <;> exact this
  have hn := congrArg (fun x : GSem nD τ sig × ℕ × Fin 7 => nameOf x.1.2) h
  have hd := congrArg (fun x : GSem nD τ sig × ℕ × Fin 7 => x.2.2) h
  cases k <;> cases k' <;> simp only [tokOf, nameOf_bar, nameOf_dsem] at hn hd
  · rw [hd]
  · simp at hn
  · simp at hn
  · simp only [Option.some.injEq, Prod.mk.injEq] at hn
    rw [hn.1, hn.2]

def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun i => dutyTok ER (barCell c) 0 i) ∗ (bigSep Finset.univ fun i => dutyTok ER (dCell 0 i c) 0 0)
    ∗ (bigSep Finset.univ fun i => dutyTok ER (dCell 1 i c) 0 0) ∗ (bigSep Finset.univ fun i => dutyTok ER (dCell 2 i c) 0 0)
    ∗ bigSep Finset.univ fun i => dutyTok ER (dCell 3 i c) 0 0)

/-- What the launch hands device `c` of the exchange's ghost state. -/
def G (c : Dev nD) : sProp 𝕄 :=
  iprop((bigSep Finset.univ fun x : CK => roundState ER (rd m ρ) (kcell (c, x)) 0)
    ∗ (bigSep Finset.univ fun x : CK => iprop(atPos ER (kcell (c, x)) 0 ∅ 0 ∗ reached ER (kcell (c, x)) 0)) ∗ toks c)

/-- What the devices together make of it. -/
def G' (c : Dev nD) : sProp 𝕄 := iprop(∃ K, ghost m ρ K c)

theorem fund : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun x : CK => Φ (kcell (c, x)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by
      unfold toks
      rw [bigSep_univ_prod, bigSep_univ_eq_bigSepL [none, some 0, some 1, some 2, some 3] (by decide) (by decide)]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one the launch leaves outside the kernel's scope; -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- with the kernel's own it makes the exchange's cells, all at zero. -/
theorem sems0_eq (c : Dev nD) :
    iprop(unscopedSems0 c ∗ Pipeline.ownSems0 (Ix := Unit) (Name := ℕ) (U := UU) (Lvl := ℕ) (Val := Elt F) (τ := τ) osem c)
      = (zeros c : sProp 𝕄) := by
  unfold zeros Pipeline.ownSems0
  rw [unscopedSems0_eq, bigSep_cells, bigSep_univ_prod, bigSep_univ_eq_bigSepL [0, 1, 2, 3] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (rd m ρ) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop(zeros c ∗ bigSep Finset.univ fun x : CK => roundState ER (rd m ρ) (kcell (c, x)) 0)
      ⊢ (|={Set.univ}=> bigSep Finset.univ fun x => iprop(∃ κ : ℕ, cellInv ER (rd m ρ) κ (kcell (c, x))) : sProp 𝕄) from by
        unfold zeros
        rw [← bigSep_sep']
        exact (bigSep_mono fun x _ => (Rounds.body_intro ER (rd m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and distances, each member moved to the device its distance away. -/
theorem deal (Φ : Fin 7 → Dev nD → sProp 𝕄) :
    (bigSep Finset.univ fun c => bigSep Finset.univ fun i => Φ i c) = bigSep Finset.univ fun c => bigSep Finset.univ fun i => Φ i (fwd i c) := by
  rw [bigSep_univ_comm, bigSep_univ_comm (fun c i => Φ i (fwd i c))]
  exact bigSep_congr fun i _ => bigSep_univ_equiv (turn i) (Φ i)

/-- The tokens dealt out: each to the device that pays its duty. -/
theorem toks_around :
    (bigSep Finset.univ fun c : Dev nD => (toks c : sProp 𝕄)) ⊢ bigSep Finset.univ fun c : Dev nD => bigSep Finset.univ fun i => payToks c i := by
  unfold toks payToks
  simp only [bigSep_sep']
  rw [deal fun i c => dutyTok ER (barCell c) 0 i, deal fun i c => dutyTok ER (dCell 1 i c) 0 0, deal fun i c => dutyTok ER (dCell 3 i c) 0 0]
  iintro ⟨HB, H0, H1, H2, H3⟩
  isplitl [HB]; · iexact HB
  isplitl [H0 H1]
  · isplitl [H0] <;> iassumption
  isplitl [H2] <;> iassumption

/-- What stays with device `c` besides the records. -/
def linear (c : Dev nD) : sProp 𝕄 :=
  iprop((bigSep Finset.univ fun x : CK => atPos ER (kcell (c, x)) 0 ∅ 0) ∗ bigSep Finset.univ fun i => payToks c i)

theorem linear_ghost (K : Dev nD × CK → ℕ) (c : Dev nD) : iprop(records m ρ K ∗ linear c) ⊢ G' m ρ c := by
  unfold linear G' ghost posAt
  rw [bigSep_cells]
  simp only [bigSep_sep']
  iintro ⟨HR, ⟨HB, H0, H1, H2, H3⟩, Ht⟩
  iexists K
  isplitl [HR]; · iexact HR
  isplitl [HB]; · iexact HB
  isplitl [H0 H1 H2 H3]
  · isplitl [H0 H1]
    · isplitl [H0]; · iexact H0
      iexact H1
    isplitl [H2]; · iexact H2
    iexact H3
  iexact Ht

theorem regroup :
    (bigSep Finset.univ fun c : Dev nD => iprop((bigSep Finset.univ fun x => iprop(∃ κ : ℕ, cellInv ER (rd m ρ) κ (kcell (c, x))))
          ∗ (bigSep Finset.univ fun x => iprop(atPos ER (kcell (c, x)) 0 ∅ 0 ∗ reached ER (kcell (c, x)) 0)) ∗ toks c) : sProp 𝕄)
      ⊢ bigSep Finset.univ (G' m ρ) := by
  simp only [bigSep_sep']
  rw [← bigSep_univ_prod (fun ck : Dev nD × CK => iprop(∃ κ : ℕ, cellInv ER (rd m ρ) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => linear_ghost m ρ K c)
  isplitr
  · unfold records; isplitl; · iexact HI
    iexact HR
  · iapply (Entails.of_eq (bigSep_sep' Finset.univ (fun c : Dev nD => bigSep Finset.univ fun x : CK => (atPos ER (kcell (c, x)) 0 ∅ 0 : sProp 𝕄))
      (fun c => bigSep Finset.univ fun i => payToks c i)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- Seven units on a cell are seven credits of one. -/
theorem seven (g : GSem nD τ sig) :
    (∑ _i : Fin 7, tallyAt g () 1 : CellTallies nD τ sig Unit) = tallyAt g () 7 := by
  unfold tallyAt tallyOn
  rw [Finset.sum_const]
  funext g'
  by_cases h : g' = g
  · subst h; simp
  · simp [h]

/-- What its peers owe device `c` at the start is the credit it waits with. -/
theorem creds (c : Dev nD) : (Pipeline.launchCred O₀ c : sProp 𝕄) ⊢ inCred c := by
  have hpay (sm : Fin 7 → SemLoc sig) (n : ℕ) :
      (Pipeline.launchCred (fun d => ∑ i ∈ todo 0, tallyAt ((fwd i d : Thread nD τ), sm i) () n) c : sProp 𝕄)
        ⊢ bigSep Finset.univ fun i => cred (tallyAt ((c : Thread nD τ), sm i) () n) := by
    rw [Pipeline.launchCred_sum (todo 0) (fun i d => tallyAt ((fwd i d : Thread nD τ), sm i) () n), todo_zero]
    exact bigSep_mono fun i _ => Pipeline.launchCred_tallyAt (sm i) (fwd i) (bwd i) (fwd_bwd i) (bwd_fwd i) () n c
  have h1 := hpay (fun i => .dma (dsem 1 i)) (credit 1)
  have h3 := hpay (fun i => .dma (dsem 3 i)) (credit 3)
  have hB := hpay (fun _ => .reg barS) 1
  unfold inCred
  rw [← seven (barCell c), Pipeline.cred_finsetSum, bigSep_sep',
    show (O₀ : Dev nD → CellTallies nD τ sig Unit) = fun d => (owedDma 1 0 d + owedDma 3 0 d) + owedBar 0 d from rfl,
    Pipeline.launchCred_add (fun d => owedDma 1 0 d + owedDma 3 0 d) (owedBar 0), Pipeline.launchCred_add (owedDma 1 0) (owedDma 3 0)]
  iintro ⟨⟨H1, H3⟩, HB⟩
  isplitl [HB]; · iapply hB; iexact HB
  isplitl [H1]
  · iapply h1; iexact H1
  · iapply h3; iexact H3

/-! ## What the launch asks of the body's two ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The scratch buffers are what the kernel's scope holds besides its windows' staging. -/
theorem scratch_eq (c : Dev nD) : (Pipeline.scopedRest cfg0.spec c : sProp 𝕄) = scratch c := by
  rw [scopedRest0_eq]
  unfold scratch
  simp only [owns_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [← sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, at any float arithmetic and from any memory with every counter at zero: every weakly
    fair execution of `@main` on all devices terminates without a fault, each device's three arrays end as the body's
    proof has them, and every counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays end as they were. -/
theorem finalA_arg0 (c : Dev nD) : finalA m ρ c (0 : Fin 3) = m ((c : Thread nD τ).loc main_arg0) :=
  (dats (F := F) m ρ 0 c).arrAt_in (0 : Fin 3) rfl _
theorem finalA_arg1 (c : Dev nD) : finalA m ρ c (1 : Fin 3) = m ((c : Thread nD τ).loc main_arg1) :=
  (dats (F := F) m ρ 0 c).arrAt_in (1 : Fin 3) rfl _

/-- The result array ends at the value the body leaves in its buffer. -/
theorem finalA_out (c : Dev nD) : finalA m ρ c (2 : Fin 3) = outAt c m ρ := by
  have hone (t t' : Fin cfg0.N) : t = t' := (fin_N0 t).trans (fin_N0 t').symm
  have hemb (i : main_v1.ty.Idx) : ((cfg0.win 2).blk t0_0).view.emb i = i := by
    exact funext fun a => Fin.ext (Pipeline.Window.rect_emb_val_of_index_zero (cfg0.win 2) t0_0 a rfl i)
  funext i
  have h := (dats (F := F) m ρ 0 c).arrAt_emb_eq_flushed (2 : Fin 3) (fun t t' _ _ hne => absurd (hone t t') hne) t0_0 (flush0_2 _) i
  rw [hemb i] at h
  exact h

/-- The run, read at the program's arrays. -/
theorem run_arrays : θ_run defs (onTc (τ := τ) (main (F := F))) ⟨m, fun _ => 0, ρ⟩ (fun r => (∀ c : Dev nD,
    r.2.mem ((c : Thread nD τ).loc main_v1) = outAt c m ρ
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun _ h => ⟨fun c => ⟨(h.1 c 2).trans (finalA_out m ρ c), (h.1 c 0).trans (finalA_arg0 m ρ c),
    (h.1 c 1).trans (finalA_arg1 m ρ c)⟩, h.2⟩) (run_main m ρ)

end Cert.KernelIdeal.Exchange

end
-- ==== Proof.Value.Quantiser.lean ====
/-
  The arithmetic of the quantiser, over the extended reals, and the maxima it takes its scale from.

  The kernel multiplies by `127 / g` where the reference divides by `g / 127`, `g` being the greatest magnitude of the
  array quantised. The two agree for every `g`: at `g = 0` everything quantised is zero, at `g = ⊤` both round zero,
  and at a positive real `g` the two factors are the same real.
-/
module

public import Idealize.ShloMosaic.PureOps.Ideal.Laws
public import Idealize.ShloMosaic.PureOps.Reduce

@[expose] public section

noncomputable section

namespace Cert.Value

open Idealize.ShloMosaic

/-- The word `0x42FE0000` is 127. -/
theorem ofBits_127 : (FloatOps.ofBits (F := Ideal) .f32 0x42FE0000#32 : EReal) = ((127 : ℝ) : EReal) := by
  simp [Ideal.ofBits, Ideal.ieee, -EReal.coe_mul]; norm_num
/-- The word `0xFF800000` is `-∞`. -/
theorem ofBits_bot : (FloatOps.ofBits (F := Ideal) .f32 0xFF800000#32 : EReal) = ⊥ := by
  simp [Ideal.ofBits, Ideal.ieee]

/-- Rounding to the nearest integer, then clipping to between the values of two words, -127 and 127. -/
def clip (q : EReal) : EReal :=
  min (FloatOps.ofBits (F := Ideal) .f32 0x42FE0000#32 : EReal)
    (max (FloatOps.ofBits (F := Ideal) .f32 0xC2FE0000#32 : EReal) (Ideal.liftRound Ideal.roundHalfEven q))

/-- The kernel's quantised value of `y` when the greatest magnitude is `g`: by multiplying with `127 / g`. -/
def quantK (g y : EReal) : EReal := clip (y * Ideal.div ((127 : ℝ) : EReal) g) * Ideal.div g ((127 : ℝ) : EReal)
/-- The reference's: by dividing by the scale `g / 127`. -/
def quantR (g y : EReal) : EReal := clip (Ideal.div y (Ideal.div g ((127 : ℝ) : EReal))) * Ideal.div g ((127 : ℝ) : EReal)

/-- Of a value whose magnitude is at most `g`, the two quantised values are one. -/
theorem quant_eq {g y : EReal} (h : max y (-y) ≤ g) : quantK g y = quantR g y := by
  have h127 : ((127 : ℝ) : EReal) ≠ 0 := by norm_num
  have hscale : Ideal.div g ((127 : ℝ) : EReal) = g * ((127 : ℝ) : EReal)⁻¹ := if_neg h127
  have hg : 0 ≤ g := by
    rcases le_total 0 y with hy | hy
    · exact hy.trans ((le_max_left _ _).trans h)
    · exact (EReal.neg_nonneg.2 hy).trans ((le_max_right _ _).trans h)
  unfold quantK quantR
  rcases eq_or_ne g 0 with rfl | hg0
  · rw [hscale, zero_mul, mul_zero, mul_zero]
  rcases eq_or_ne g ⊤ with rfl | hgt
  · have hs : Ideal.div ⊤ ((127 : ℝ) : EReal) = ⊤ := by
      rw [hscale, ← EReal.coe_inv]; exact EReal.top_mul_coe_of_pos (by norm_num)
    have h1 : Ideal.div ((127 : ℝ) : EReal) ⊤ = 0 := by
      unfold Ideal.div; rw [if_neg EReal.top_ne_zero, EReal.inv_top, mul_zero]
    have h2 : Ideal.div y ⊤ = 0 := by
      unfold Ideal.div; rw [if_neg EReal.top_ne_zero, EReal.inv_top, mul_zero]
    rw [hs, h1, h2, mul_zero]
  · lift g to ℝ using ⟨hgt, fun hb => by rw [hb] at hg; exact absurd hg (by simp)⟩
    have hr : g ≠ 0 := fun hr => hg0 (by rw [hr]; rfl)
    have hs : Ideal.div (g : EReal) ((127 : ℝ) : EReal) = ((g * 127⁻¹ : ℝ) : EReal) := by
      rw [hscale, ← EReal.coe_inv, ← EReal.coe_mul]
    have hs0 : ((g * 127⁻¹ : ℝ) : EReal) ≠ 0 := fun h0 => by
      have := EReal.coe_eq_zero.1 h0; exact hr (by linarith)
    have hi : Ideal.div ((127 : ℝ) : EReal) (g : EReal) = ((127 * g⁻¹ : ℝ) : EReal) := by
      unfold Ideal.div; rw [if_neg hg0, ← EReal.coe_inv, ← EReal.coe_mul]
    have hq : Ideal.div y ((g * 127⁻¹ : ℝ) : EReal) = y * ((127 * g⁻¹ : ℝ) : EReal) := by
      unfold Ideal.div; rw [if_neg hs0, ← EReal.coe_inv]
      congr 2; rw [mul_inv, inv_inv, mul_comm]
    rw [hs, hi, hq]

/-- Folding `max` along a list: the result is below `z` exactly when the start and everything in the list are. -/
theorem foldl_max_le_iff {ι : Type} (x : ι → EReal) (z : EReal) : ∀ (l : List ι) (b : EReal),
    l.foldl (fun r i => max r (x i)) b ≤ z ↔ b ≤ z ∧ ∀ i ∈ l, x i ≤ z
  | [], b => by simp
  | a :: l, b => by rw [List.foldl_cons, foldl_max_le_iff x z l]; simp [and_assoc]

/-- Every index of an array is in the list of its indices in row-major order. -/
theorem mem_rowMajor (s : Shape) (i : s.Idx) : i ∈ (List.finRange s.numel).map s.rowMajor.symm :=
  List.mem_map.2 ⟨s.rowMajor i, List.mem_finRange _, s.rowMajor.symm_apply_apply i⟩

/-- A kernel's maximum of a whole array, from `-∞`, into a shape of one element is below `z` exactly when every element is. -/
theorem multiReduction_le_iff {s t : Shape} {axes : List (Fin s.rank)} (x : FVec Ideal s .f32) (h : s.Reduces axes t)
    (hφ : FKind.Formats .f32) (hacc : (0xFF800000#32 : BitVec FTy.f32.bits) = FKind.maximumf.neutral .f32 hφ)
    (ht : ∀ b, t.size b = 1) (j : t.Idx) (z : EReal) :
    (multiReduction .maximumf axes t x 0xFF800000#32 h hφ hacc j : EReal) ≤ z ↔ ∀ i, (x i : EReal) ≤ z := by
  rw [multiReduction_maximumf_eq_reduceFold, reduceFold_eq_foldl_of_size_one h ht, ofBits_bot]
  exact (foldl_max_le_iff x z _ _).trans ⟨fun h i => h.2 i (mem_rowMajor s i), fun h => ⟨bot_le, fun i _ => h i⟩⟩

/-- The reference's, into a scalar, likewise. -/
theorem hostReduce_le_iff {s t u : Shape} {axes : List (Fin s.rank)} (x : FVec Ideal s .f32) (h : s.ReducesTo axes t) (hu : 0 < u.numel)
    (ht : t.rank = 0) (j : t.Idx) (z : EReal) :
    (Host.reduce (α := Ideal .f32) FloatOps.maximumf x (constant (F := Ideal) u .f32 0xFF800000#32) h hu j : EReal) ≤ z
      ↔ ∀ i, (x i : EReal) ≤ z := by
  have hdrop (i : s.Idx) : h.drop i = j := funext fun b => absurd b.isLt (by omega)
  rw [Host.reduce_eq_foldl, List.filter_eq_self.2 fun i _ => decide_eq_true (hdrop i)]
  refine (foldl_max_le_iff x z _ _).trans ⟨fun h i => h.2 i (mem_rowMajor s i), fun h => ⟨?_, fun i _ => h i⟩⟩
  exact ofBits_bot.le.trans bot_le

end Cert.Value
-- ==== Proof.Value.Blocks.lean ====
/-
  The kernel's result over the extended reals, read off the whole arrays.

  With `X` and `W` the whole arrays, device `c` holding rows `512 c` to `512 c + 511` of `X` and all of `W`:

  * the product of device `c` with the columns of device `j` is that block of `X W` (`blk_apply`);
  * the maximum every device ends with is the greatest magnitude in all of `X W` (`gmax_le_iff`: it has the same upper bounds);
  * the result on device `c` in the rows of device `j` is the quantised block (`oval_apply`).
-/
module

public import proofs.«01_k».proof.Proof.Ideal.Launch
public import proofs.«01_k».proof.Proof.Value.Quantiser
public import Idealize.ShloMosaic.Lib.MatmulPlain
public import Idealize.ShloMosaic.Lib.Layout
public import Idealize.ShloMosaic.Lib.Pipeline.Value
public import Idealize.ShloMosaic.Lib.Pipeline.ValueKit.Geometry

@[expose] public section

noncomputable section

namespace Cert.Value

open Cert.KernelIdeal Cert.KernelIdeal.Gen Cert.KernelIdeal.Exchange
open Idealize.ShloMosaic Idealize.ShloMosaic.ValueIdx
open Idealize.ShloMosaic.TcCoe
open scoped BigOperators

/-- Row `r` of device `c`'s block of rows, in the whole; and column `t` of its block of columns. -/
def rowOf (c : Dev nD) (r : Fin 512) : Fin 4096 := ⟨512 * c.val + r.val, by have := c.isLt; have : nD = 8 := rfl; omega⟩
def colOf (c : Dev nD) (t : Fin 256) : Fin 2048 := ⟨256 * c.val + t.val, by have := c.isLt; have : nD = 8 := rfl; omega⟩

section Reads

variable {F : FTy → Type} [FloatOps F]
variable (m : (ℓ : Loc nD τ sig) → Buf (Elt F) ℓ) (ρ : Dev nD → PrngReg)

/-- Device `c` reads its block of `x` from its memory as it stands. -/
theorem xval_apply (c : Dev nD) (i : S512x4096.Idx) : xval m ρ c i = m ((c : Thread nD τ).loc main_arg0) i := by
  unfold xval k0_pay2 xstg
  rw [shapeCast_self]
  show m ((c : Thread nD τ).loc main_arg0) _ = _
  congr 1
  funext a
  refine Fin.ext ((Pipeline.Window.rect_emb_val_of_index_zero (cfg0.win 0) t0_0 a rfl _).trans ?_)
  show (![0, 0] : Fin 2 → ℕ) a + 1 * (i a).val = _
  match a with
  | 0 => show 0 + 1 * _ = _; omega
  | 1 => show 0 + 1 * _ = _; omega

/-- And the columns of device `j` from its `w`. -/
theorem wval_apply (c j : Dev nD) (k : Fin 4096) (t : Fin 256) :
    wval m ρ c j (ix2 k t) = m ((c : Thread nD τ).loc main_arg1) (ix2 k (colOf j t)) := by
  unfold wval wstg
  show m ((c : Thread nD τ).loc main_arg1) _ = _
  congr 1
  funext a
  refine Fin.ext ((Pipeline.Window.rect_emb_val_of_index_zero (cfg0.win 1) t0_0 a rfl _).trans ?_)
  match a with
  | 0 => show 0 + 1 * k.val = k.val; omega
  | 1 => show 256 * j.val + 1 * t.val = 256 * j.val + t.val; omega

end Reads

variable (m : (ℓ : Loc nD τ sig) → Buf (Elt Ideal) ℓ) (ρ : Dev nD → PrngReg)
variable (X : FVec Ideal ⟨2, ![4096, 4096]⟩ .bf16) (W : FVec Ideal ⟨2, ![4096, 2048]⟩ .bf16)

/-- The product `X W` at row `r`, column `l`. -/
def prodAt (r : Fin 4096) (l : Fin 2048) : EReal := ∑ k : Fin 4096, (X (ix2 r k) : EReal) * (W (ix2 k l) : EReal)
/-- Every row is in some device's block, and every column. -/
theorem rowOf_surj (r : Fin 4096) : ∃ c r', rowOf c r' = r :=
  ⟨⟨r.val / 512, by show _ < 8; omega⟩, ⟨r.val % 512, by omega⟩, Fin.ext (by show 512 * (r.val / 512) + r.val % 512 = _; omega)⟩
theorem colOf_surj (l : Fin 2048) : ∃ c t, colOf c t = l :=
  ⟨⟨l.val / 256, by show _ < 8; omega⟩, ⟨l.val % 256, by omega⟩, Fin.ext (by show 256 * (l.val / 256) + l.val % 256 = _; omega)⟩

/-- Device `c`'s memory at launch holds its block of rows of `X`, and all of `W`. -/
def Holds : Prop := ∀ c : Dev nD,
  m ((c : Thread nD τ).loc main_arg0) = Layout.block ⟨2, ![512, 4096]⟩ ⟨2, ![4096, 4096]⟩ 0 8 c X
    ∧ m ((c : Thread nD τ).loc main_arg1) = W

/-- The product of device `c`'s rows with device `j`'s columns, in `f32`. -/
def blk (c j : Dev nD) : FVec Ideal S512x256 .f32 := k0_pay24 (xval m ρ c) (wval m ρ c j)

variable {m X W}

/-- It is that block of `X W`. -/
theorem blk_apply (h : Holds m X W) (c j : Dev nD) (r : Fin 512) (t : Fin 256) :
    (blk m ρ c j (ix2 r t) : EReal) = prodAt X W (rowOf c r) (colOf j t) := by
  unfold blk k0_pay24
  rw [shapeCast_self]
  refine (Ideal.matmul_plain_apply (M := 512) (K := 4096) (N := 256) none (xval m ρ c) (wval m ρ c j) _ r t).trans ?_
  rw [show (constant (F := Ideal) S512x256 .f32 0x00000000#32 (ix2 r t) : EReal) = 0 from Ideal.ofBits_zero_f32, zero_add]
  refine Finset.sum_congr rfl fun k _ => ?_
  rw [xval_apply, wval_apply, (h c).1, (h c).2]
  congr 2
  rw [Layout.block_apply]
  congr 1
  funext a
  refine Fin.ext ?_
  match a with
  | 0 => show c.val * 512 + r.val = 512 * c.val + r.val; omega
  | 1 => rfl

/-- Reshaping keeps what holds of every element. -/
theorem shapeCast_forall {s t : Shape} {α : Type} (x : s.Idx → α) (h : s.ShapeCasts t) (p : α → Prop) :
    (∀ j, p (shapeCast t x h j)) ↔ ∀ i, p (x i) :=
  ⟨fun H i => by have := H ((Shape.reshapeEquiv h).symm i); rwa [shapeCast, Equiv.apply_symm_apply] at this, fun H _ => H _⟩

/-- The one element of a maximum over a whole array, reshaped before and after, is below `z` exactly when every element is. -/
theorem extractMax_le_iff {s s' t u : Shape} {axes : List (Fin s'.rank)} (v : FVec Ideal s .f32) (hc : s.ShapeCasts s') (h : s'.Reduces axes t)
    (hφ : FKind.Formats .f32) (hacc : (0xFF800000#32 : BitVec FTy.f32.bits) = FKind.maximumf.neutral .f32 hφ) (hu : t.ShapeCasts u)
    (pos : Fin u.rank → ℕ) (hp : ∀ a, pos a < u.size a) (ht : ∀ b, t.size b = 1) (z : EReal) :
    (extractAt pos (shapeCast u (multiReduction .maximumf axes t (shapeCast s' v hc) 0xFF800000#32 h hφ hacc) hu) hp : EReal) ≤ z
      ↔ ∀ i, (v i : EReal) ≤ z :=
  (multiReduction_le_iff _ h hφ hacc ht _ z).trans (shapeCast_forall v hc fun x : EReal => x ≤ z)

/-- The greatest of a block's values, as the kernel takes it. -/
def top (v : FVec Ideal S512x256 .f32) : EReal :=
  extractAt ![0, 0, 0] (shapeCast S1x1x1 (multiReduction .maximumf [1, 2] S1 (shapeCast S1x512x256 v shapeCasts_S512x256_S1x512x256)
    0xFF800000#32 reduces_S1x512x256_S1 (.inl rfl) rfl) shapeCasts_S1_S1x1x1) inpos_S1x1x1_p0_0_0
theorem top_le_iff (v : FVec Ideal S512x256 .f32) (z : EReal) : top v ≤ z ↔ ∀ i, (v i : EReal) ≤ z :=
  extractMax_le_iff v _ _ _ _ _ _ _ (fun b => by revert b; decide) z
theorem topAbs_le_iff (v : FVec Ideal S512x256 .f32) (z : EReal) : top (absf v) ≤ z ↔ ∀ i, max (v i : EReal) (-(v i : EReal)) ≤ z :=
  top_le_iff (absf v) z
/-- The greatest of the rows received. -/
def topRows (v : FVec Ideal S7x128 .f32) : EReal :=
  extractAt ![0, 0, 0] (shapeCast S1x1x1 (multiReduction .maximumf [1, 2] S1 (shapeCast S1x7x128 v shapeCasts_S7x128_S1x7x128)
    0xFF800000#32 reduces_S1x7x128_S1 (.inl rfl) rfl) shapeCasts_S1_S1x1x1) inpos_S1x1x1_p0_0_0
theorem topRows_le_iff (v : FVec Ideal S7x128 .f32) (z : EReal) : topRows v ≤ z ↔ ∀ i, (v i : EReal) ≤ z :=
  extractMax_le_iff v _ _ _ _ _ _ _ (fun b => by revert b; decide) z

/-- What the kernel takes of a block to be stored is the block's greatest magnitude. -/
theorem bmax_eq (c : Dev nD) (i : Fin 7) : bmax m ρ c i = top (absf (blk m ρ c (fwd i c))) := rfl

/-- Every device is the device itself or a peer at one of the seven distances. -/
theorem self_or_fwd (c j : Dev nD) : j = c ∨ ∃ i, j = fwd i c := by revert c j; decide +kernel
theorem self_or_bwd (c j : Dev nD) : j = c ∨ ∃ i, j = bwd i c := by revert c j; decide +kernel

/-- The greatest of seven values and of a block's magnitudes, as the kernel takes it; -/
theorem k0_pay25_eq (x : FVec Ideal S512x4096 .bf16) (a0 a1 a2 a3 a4 a5 a6 : Ideal .f32) (w : FVec Ideal S4096x256 .bf16) :
    (k0_pay25 x a0 a1 a2 a3 a4 a5 a6 w : EReal)
      = max (max (max (max (max (max (max (a0 : EReal) a1) a2) a3) a4) a5) a6) (top (absf (k0_pay24 x w))) := by
  have e : k0_pay25 x a0 a1 a2 a3 a4 a5 a6 w = Scalar.maximumf (F := Ideal) (φ := .f32) (Scalar.maximumf (Scalar.maximumf (Scalar.maximumf
    (Scalar.maximumf (Scalar.maximumf (Scalar.maximumf a0 a1) a2) a3) a4) a5) a6) (top (absf (k0_pay24 x w))) := rfl
  rw [e]
  generalize top (absf (k0_pay24 x w)) = v
  rfl
/-- and the row sent holds it everywhere. -/
theorem k0_pay26_apply (x : FVec Ideal S512x4096 .bf16) (a0 a1 a2 a3 a4 a5 a6 : Ideal .f32) (w : FVec Ideal S4096x256 .bf16) (j : S1x128.Idx) :
    k0_pay26 x a0 a1 a2 a3 a4 a5 a6 w j = k0_pay25 x a0 a1 a2 a3 a4 a5 a6 w := rfl

/-- A device's greatest magnitude is the greatest of its seven blocks' to be stored and its own's. -/
theorem lmax_eq (c : Dev nD) : (lmax m ρ c : EReal)
    = max (max (max (max (max (max (max (bmax m ρ c 0 : EReal) (bmax m ρ c 1)) (bmax m ρ c 2)) (bmax m ρ c 3)) (bmax m ρ c 4)) (bmax m ρ c 5))
        (bmax m ρ c 6)) (top (absf (blk m ρ c c))) := k0_pay25_eq _ _ _ _ _ _ _ _ _
/-- A row received holds its sender's everywhere. -/
theorem hval_apply (c : Dev nD) (j : S7x128.Idx) : hval m ρ c j = lmax m ρ (bwd (j 0) c) := by
  unfold hval grow; exact k0_pay26_apply ..

/-- It is below `z` exactly when each magnitude in each block of the device's rows is. -/
theorem lmax_le_iff (c : Dev nD) (z : EReal) :
    (lmax m ρ c : EReal) ≤ z ↔ ∀ j x, max (blk m ρ c j x : EReal) (-(blk m ρ c j x : EReal)) ≤ z := by
  rw [lmax_eq]
  rw [max_le_iff, max_le_iff, max_le_iff, max_le_iff, max_le_iff, max_le_iff, max_le_iff]
  simp only [bmax_eq, topAbs_le_iff]
  constructor
  · rintro ⟨⟨⟨⟨⟨⟨⟨h0, h1⟩, h2⟩, h3⟩, h4⟩, h5⟩, h6⟩, h7⟩ j
    rcases self_or_fwd c j with rfl | ⟨i, rfl⟩
    · exact h7
    · match i with
      | 0 => exact h0
      | 1 => exact h1
      | 2 => exact h2
      | 3 => exact h3
      | 4 => exact h4
      | 5 => exact h5
      | 6 => exact h6
  · exact fun h => ⟨⟨⟨⟨⟨⟨⟨h _, h _⟩, h _⟩, h _⟩, h _⟩, h _⟩, h _⟩, h _⟩

/-- The greatest magnitude a device ends with: its own and those of the rows received. -/
def gmax (c : Dev nD) : EReal := max (lmax m ρ c : EReal) (topRows (hval m ρ c))

/-- It is below `z` exactly when every device's is. -/
theorem gmax_le_lmax_iff (c : Dev nD) (z : EReal) : gmax (m := m) ρ c ≤ z ↔ ∀ d, (lmax m ρ d : EReal) ≤ z := by
  unfold gmax
  rw [max_le_iff, topRows_le_iff]
  simp only [hval_apply]
  refine ⟨fun h d => ?_, fun h => ⟨h c, fun x => h _⟩⟩
  rcases self_or_bwd c d with rfl | ⟨i, rfl⟩
  · exact h.1
  · exact h.2 (ix2 (n0 := 7) (n1 := 128) i 0)

/-- So it is the greatest magnitude in all of `X W`. -/
theorem gmax_le_iff (h : Holds m X W) (c : Dev nD) (z : EReal) :
    gmax (m := m) ρ c ≤ z ↔ ∀ r l, max (prodAt X W r l) (-(prodAt X W r l)) ≤ z := by
  rw [gmax_le_lmax_iff]
  constructor
  · intro H r l
    obtain ⟨d, r, rfl⟩ := rowOf_surj r
    obtain ⟨j, t, rfl⟩ := colOf_surj l
    have := (lmax_le_iff ρ d z).1 (H d) j (ix2 r t)
    rwa [blk_apply ρ h] at this
  · intro H d
    refine (lmax_le_iff ρ d z).2 fun j x => ?_
    have hx : x = ix2 (n0 := 512) (n1 := 256) (x 0) (x 1) := eq_ix2 x
    have hb : (blk m ρ d j x : EReal) = prodAt X W (rowOf d (x 0)) (colOf j (x 1)) :=
      (congrArg (blk m ρ d j) hx).trans (blk_apply ρ h d j (x 0) (x 1))
    rw [hb]
    exact H _ _

/-- The scale and its inverse, of the greatest magnitude. -/
theorem k0_pay27_eq (l : Ideal .f32) (w : FVec Ideal S7x128 .f32) : (k0_pay27 l w : EReal) = max (l : EReal) (topRows w) := by
  have e : k0_pay27 l w = Scalar.maximumf (F := Ideal) (φ := .f32) l (topRows w) := rfl
  rw [e]
  generalize topRows w = v
  rfl
theorem k0_pay28_eq (l : Ideal .f32) (w : FVec Ideal S7x128 .f32) :
    (k0_pay28 l w : EReal) = Ideal.div (max (l : EReal) (topRows w)) ((127 : ℝ) : EReal) := by
  rw [← k0_pay27_eq, ← ofBits_127]; unfold k0_pay28; generalize k0_pay27 l w = v; rfl
theorem k0_pay29_eq (l : Ideal .f32) (w : FVec Ideal S7x128 .f32) :
    (k0_pay29 l w : EReal) = Ideal.div ((127 : ℝ) : EReal) (max (l : EReal) (topRows w)) := by
  rw [← k0_pay27_eq, ← ofBits_127]; unfold k0_pay29; generalize k0_pay27 l w = v; rfl

/-- A block quantised, as the kernel stores it: from its own product, and from a peer's landed. -/
theorem own_apply (v : FVec Ideal S512x256 .f32) (l : Ideal .f32) (w : FVec Ideal S7x128 .f32) (i : S512x256.Idx) :
    (k0_pay30 v l w i : EReal) = quantK (max (l : EReal) (topRows w)) (v i) := by
  unfold quantK
  rw [← k0_pay28_eq, ← k0_pay29_eq]
  unfold k0_pay30
  generalize k0_pay28 l w = a, k0_pay29 l w = b
  rfl
theorem peer_apply (v : FVec Ideal S512x256 .bf16) (l : Ideal .f32) (w : FVec Ideal S7x128 .f32) (i : S512x256.Idx) :
    (k0_pay1 (k0_pay28 l w) (k0_pay29 l w) v i : EReal) = quantK (max (l : EReal) (topRows w)) (v i) := by
  unfold quantK
  rw [← k0_pay28_eq, ← k0_pay29_eq]
  generalize k0_pay28 l w = a, k0_pay29 l w = b
  rfl

/-- A block stored narrow is the same block at the extended reals. -/
theorem yval_eq (c j : Dev nD) (i : S512x256.Idx) : (yval m ρ c j i : EReal) = blk m ρ c j i := by
  have : yval m ρ c j = shapeCast S512x256 (truncf .bf16 (blk m ρ c j) bitsLt_bf16_f32) shapeCasts_S512x256_S512x256 := rfl
  rw [this, shapeCast_self]
  rfl

/-- A block of the result: each value of that block of `X W`, quantised. -/
theorem oval_apply (h : Holds m X W) (c j : Dev nD) (r : Fin 512) (t : Fin 256) :
    (oval m ρ c j (ix2 r t) : EReal) = quantK (gmax (m := m) ρ c) (prodAt X W (rowOf j r) (colOf c t)) := by
  rw [← blk_apply ρ h]
  unfold oval
  split
  · next hj => subst hj; exact own_apply (blk m ρ j j) (lmax m ρ j) (hval m ρ j) (ix2 r t)
  · exact (peer_apply (yval m ρ j c) (lmax m ρ c) (hval m ρ c) (ix2 r t)).trans (by rw [yval_eq]; rfl)

end Cert.Value
-- ==== Proof.Value.Equation.lean ====
/-
  The reference's result over the extended reals, and the value equation: on every device the kernel's result is that
  device's block of columns of the reference's.
-/
module

public import proofs.«01_k».proof.Proof.Gen.ReferenceIdeal.Run
public import proofs.«01_k».proof.Proof.Value.Blocks
public import Idealize.ShloMosaic.Lib.StackMember
public import Idealize.ShloMosaic.Lib.IdealHost

@[expose] public section

noncomputable section

namespace Cert.Value

open Idealize.ShloMosaic Idealize.ShloMosaic.ValueIdx
open Idealize.ShloMosaic.TcCoe

section Reference

open Cert.ReferenceIdeal Cert.ReferenceIdeal.Gen

variable (X : FVec Ideal S4096x4096 .bf16) (W : FVec Ideal S4096x2048 .bf16)

/-- The reference's product, its greatest magnitude, and a product quantised by a greatest magnitude. -/
def refProd : FVec Ideal S4096x2048 .f32 := Host.dotGeneral dot_S4096x4096_S4096x2048_S4096x2048_1_0_0_1_n_n none X W
def refMax : FVec Ideal S_ .f32 :=
  Host.reduce FloatOps.maximumf (Host.absf (refProd X W)) (constant S_ .f32 0xFF800000#32) reducesTo_S4096x2048_S_d0_1 h_S_
def refQuant (p : FVec Ideal S4096x2048 .f32) (a : FVec Ideal S_ .f32) : FVec Ideal S4096x2048 .bf16 :=
  truncf .bf16 (mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf p (broadcastInDim S4096x2048 ![] bcast_S_S4096x2048 (Host.divf a (constant S_ .f32 0x42FE0000#32)))))))
    (broadcastInDim S4096x2048 ![] bcast_S_S4096x2048 (Host.divf a (constant S_ .f32 0x42FE0000#32)))) bitsLt_bf16_f32
/-- The reference's result. -/
def refOut : FVec Ideal S4096x2048 .bf16 := refQuant (refProd X W) (refMax X W)

/-- Its product is `X W`. -/
theorem refProd_apply (r : Fin 4096) (l : Fin 2048) : (refProd X W (ix2 r l) : EReal) = prodAt X W r l :=
  StackMember.dotGeneral_plain_apply (m := 4096) (k := 4096) (n := 2048) none X W r l

/-- Its greatest magnitude is below `z` exactly when every magnitude in `X W` is. -/
theorem refMax_le_iff (j : S_.Idx) (z : EReal) : (refMax X W j : EReal) ≤ z ↔ ∀ r l, max (prodAt X W r l) (-(prodAt X W r l)) ≤ z := by
  have key : (refMax X W j : EReal) ≤ z ↔ ∀ i, max (refProd X W i : EReal) (-(refProd X W i : EReal)) ≤ z :=
    hostReduce_le_iff (Host.absf (refProd X W)) reducesTo_S4096x2048_S_d0_1 h_S_ rfl j z
  rw [key]
  refine ⟨fun h r l => by rw [← refProd_apply]; exact h _, fun h i => ?_⟩
  have hi : i = ix2 (n0 := 4096) (n1 := 2048) (i 0) (i 1) := eq_ix2 i
  have hp : (refProd X W i : EReal) = prodAt X W (i 0) (i 1) := (congrArg (refProd X W) hi).trans (refProd_apply X W (i 0) (i 1))
  rw [hp]
  exact h _ _

/-- Quantising is element by element, by the one scale. -/
theorem refQuant_apply (p : FVec Ideal S4096x2048 .f32) (a : FVec Ideal S_ .f32) (i : S4096x2048.Idx) :
    (refQuant p a i : EReal) = quantR (a ix0) (p i) := by
  have hs : broadcastInDim S4096x2048 ![] bcast_S_S4096x2048 (Host.divf a (constant S_ .f32 0x42FE0000#32))
      = fun _ => Ideal.div (a ix0) (FloatOps.ofBits (F := Ideal) .f32 0x42FE0000#32) :=
    funext fun j => broadcastInDim_scalar_apply _ _ j
  unfold quantR refQuant
  rw [hs, ← ofBits_127]
  rfl

end Reference

open Cert.KernelIdeal Cert.KernelIdeal.Gen Cert.KernelIdeal.Exchange

variable {m : (ℓ : Loc nD τ sig) → Buf (Elt Ideal) ℓ} (ρ : Dev nD → PrngReg)
variable {X : FVec Ideal ⟨2, ![4096, 4096]⟩ .bf16} {W : FVec Ideal ⟨2, ![4096, 2048]⟩ .bf16}

/-- The two greatest magnitudes are one: they have the same upper bounds. -/
theorem gmax_eq (h : Holds m X W) (c : Dev nD) : gmax (m := m) ρ c = refMax X W ix0 :=
  eq_of_forall_ge_iff fun z => (gmax_le_iff ρ h c z).trans (refMax_le_iff X W ix0 z).symm

/-- The kernel's quantised value of an element of `X W` is the reference's. -/
theorem quant_prod (h : Holds m X W) (c : Dev nD) (r : Fin 4096) (l : Fin 2048) :
    quantK (gmax (m := m) ρ c) (prodAt X W r l) = (refOut X W (ix2 r l) : EReal) := by
  rw [quant_eq ((gmax_le_iff ρ h c _).1 le_rfl r l), gmax_eq ρ h, ← refProd_apply]
  exact (refQuant_apply _ _ _).symm

/-- The value equation. -/
theorem outAt_eq (h : Holds m X W) (c : Dev nD) :
    outAt c m ρ = Layout.block ⟨2, ![4096, 256]⟩ ⟨2, ![4096, 2048]⟩ 1 8 c (refOut X W) := by
  funext x
  have h0 : (x 0).val < 4096 := (x 0).isLt
  let j : Dev nD := ⟨(x 0).val / 512, by show _ < 8; omega⟩
  let r : Fin 512 := ⟨(x 0).val % 512, by omega⟩
  let t : Fin 256 := ⟨(x 1).val, (x 1).isLt⟩
  have hin : outAt c m ρ x = oval m ρ c j (ix2 r t) := by
    unfold outAt
    refine congrArg (oval m ρ c j) (funext fun a => ?_)
    match a with
    | 0 => rfl
    | 1 => rfl
  rw [hin, Layout.block_apply]
  refine (oval_apply ρ h c j r t).trans ((quant_prod ρ h c _ _).trans (congrArg (refOut X W) (funext fun a => Fin.ext ?_)))
  match a with
  | 0 => show 512 * ((x 0).val / 512) + (x 0).val % 512 = (x 0).val; omega
  | 1 => show 256 * c.val + (x 1).val = c.val * 256 + (x 1).val; omega

end Cert.Value
-- ==== Proof.lean ====
/-
  The claims proved. The two programs with the kernel run on the mesh by the exchange's proof (`Bits` and `Ideal` are the
  same proof, of the program read at machine floats and of it read at the extended reals); the reference runs on one
  device, and its result is the array of which each device computes its columns.
-/
module

public import proofs.«01_k».proof.Defs
public import proofs.«01_k».proof.Proof.Bits.Launch
public import proofs.«01_k».proof.Proof.Ideal.Launch
public import proofs.«01_k».proof.Proof.Gen.ReferenceIdeal.Run
public import proofs.«01_k».proof.Proof.Value.Equation

@[expose] public section

noncomputable section

namespace Cert.Proof

open Idealize.ShloMosaic Idealize.SL.Sem

/-- The kernel runs on every device to its end, leaves its arguments alone and every counter at zero. -/
theorem kernel_frame : Cert.quiescent_Kernel (hKernel := Cert.Kernel.Gen.facts) := fun m ρ _ =>
  (θ_run _ _ _).mono (fun _ h => ⟨fun c => (h.1 c).2, h.2⟩) (Cert.Kernel.Exchange.run_arrays m ρ)

/-- So does the kernel at the extended reals. -/
theorem ideal_frame : Cert.quiescent_KernelIdeal (hKernelIdeal := Cert.KernelIdeal.Gen.facts) := fun m ρ _ =>
  (θ_run _ _ _).mono (fun _ h => ⟨fun c => (h.1 c).2, h.2⟩) (Cert.KernelIdeal.Exchange.run_arrays m ρ)

/-- The reference runs and leaves its arguments alone; it has no semaphore at all. -/
theorem reference_frame : Cert.quiescent_ReferenceIdeal (hReferenceIdeal := Cert.ReferenceIdeal.Gen.facts) := fun m ρ _ =>
  (θ_run _ _ _).mono (fun _ h => ⟨fun c => (h c).2, by
      funext g
      rcases g with ⟨_, s | s⟩ <;> exact s.elim0⟩)
    (Cert.ReferenceIdeal.Value.run m ρ)

/-- At the extended reals the kernel on eight devices computes the reference's result: each device ends with its block of columns. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨Cert.Value.refOut _ _,
    (θ_run _ _ _).mono (fun _ h c => ⟨(h.1 c).1.trans (Cert.Value.outAt_eq ρ hargs c), (h.1 c).2⟩)
      (Cert.KernelIdeal.Exchange.run_arrays m ρ),
    (θ_run _ _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  kernel_frame, ideal_frame, reference_frame, trivial, algebraic⟩

end Cert.Proof

end
